-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S3x1024x1024 : Shape := ⟨3, ![3, 1024, 1024]⟩
abbrev S2x1024x2048 : Shape := ⟨3, ![2, 1024, 2048]⟩
abbrev S2x128 : Shape := ⟨2, ![2, 128]⟩
abbrev S3x2x128 : Shape := ⟨3, ![3, 2, 128]⟩
abbrev S8 : Shape := ⟨1, ![8]⟩
abbrev S6 : Shape := ⟨1, ![6]⟩
abbrev S2 : Shape := ⟨1, ![2]⟩
abbrev S_ : Shape := ⟨0, ![]⟩
abbrev S1 : Shape := ⟨1, ![1]⟩
abbrev S1x1024x512 : Shape := ⟨3, ![1, 1024, 512]⟩
abbrev S1024x512 : Shape := ⟨2, ![1024, 512]⟩
abbrev S1x256x1024 : Shape := ⟨3, ![1, 256, 1024]⟩
abbrev S256x1024 : Shape := ⟨2, ![256, 1024]⟩
abbrev S1x1024x2048 : Shape := ⟨3, ![1, 1024, 2048]⟩
abbrev S1024x1024 : Shape := ⟨2, ![1024, 1024]⟩
abbrev S1x1024x1024 : Shape := ⟨3, ![1, 1024, 1024]⟩
abbrev S256x2048 : Shape := ⟨2, ![256, 2048]⟩
abbrev S1x256x2048 : Shape := ⟨3, ![1, 256, 2048]⟩
abbrev S1x1x1 : Shape := ⟨3, ![1, 1, 1]⟩
abbrev S128 : Shape := ⟨1, ![128]⟩
abbrev S1x128 : Shape := ⟨2, ![1, 128]⟩
abbrev S1x1x128 : Shape := ⟨3, ![1, 1, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S1024x2048, .f32⟩
  | .local _ .vmem, ⟨1, _⟩ => ⟨S4096x1024, .bf16⟩
  | .local _ .vmem, ⟨2, _⟩ => ⟨S4096x2048, .bf16⟩
  | .local _ .vmem, ⟨3, _⟩ => ⟨S3x1024x1024, .bf16⟩
  | .local _ .vmem, ⟨4, _⟩ => ⟨S2x1024x2048, .f32⟩
  | .local _ .vmem, ⟨5, _⟩ => ⟨S2x128, .f32⟩
  | .local _ .vmem, ⟨6, _⟩ => ⟨S3x2x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19 : BitVec 32 := 1#32
  let v37 : BitVec 32 := Scalar.muli v13 c1_i32_19
  let v38 : BitVec 32 := Scalar.addi c0_i32_20 v37
  v38.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_22 : BitVec 32 := 1#32
  let v39 : BitVec 32 := Scalar.muli v24 c1_i32_22
  let v40 : BitVec 32 := Scalar.addi c0_i32_23 v39
  v40.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_25 : BitVec 32 := 1#32
  let v41 : BitVec 32 := Scalar.muli v35 c1_i32_25
  let v42 : BitVec 32 := Scalar.addi c0_i32_26 v41
  v42.toNat
def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32 : BitVec 32 := 1024#32
  let v43 : BitVec 32 := Scalar.muli v13 c1024_i32
  let c0_i32_31 : BitVec 32 := 0#32
  ![v43.toNat, 0]
def k0_off2 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_46 : BitVec 32 := 1024#32
  let v63 : BitVec 32 := Scalar.muli v13 c1024_i32_46
  let v64 : Index := Scalar.indexCast v63
  let c0_47 : Index := 0#32
  ![v64.toNat, 0]
def k0_off3 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_48 : BitVec 32 := 1024#32
  let v68 : BitVec 32 := Scalar.muli v13 c1024_i32_48
  let c512_i32 : BitVec 32 := 512#32
  ![v68.toNat, 512]
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_57 : BitVec 32 := 1#32
  let v75 : BitVec 32 := Scalar.muli v13 c1_i32_57
  let v76 : BitVec 32 := Scalar.addi c0_i32_58 v75
  v76.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_80 : BitVec 32 := 1#32
  let v104 : BitVec 32 := Scalar.muli v24 c1_i32_80
  let v105 : BitVec 32 := Scalar.addi c0_i32_81 v104
  v105.toNat
def k0_off4 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_93 : BitVec 32 := 1024#32
  let v121 : BitVec 32 := Scalar.muli v13 c1024_i32_93
  let v122 : Index := Scalar.indexCast v121
  let c512 : Index := 512#32
  ![v122.toNat, 512]
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_104 : BitVec 32 := 1#32
  let v133 : BitVec 32 := Scalar.muli v13 c1_i32_104
  let v134 : BitVec 32 := Scalar.addi c0_i32_105 v133
  v134.toNat
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_128 : BitVec 32 := 1#32
  let v162 : BitVec 32 := Scalar.muli v24 c1_i32_128
  let v163 : BitVec 32 := Scalar.addi c0_i32_129 v162
  v163.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_143 : BitVec 32 := 1024#32
  let v184 : BitVec 32 := Scalar.muli v2 c1024_i32_143
  let c0_i32_148 : BitVec 32 := 0#32
  ![v184.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_159 : BitVec 32 := 1024#32
  let v203 : BitVec 32 := Scalar.muli v2 c1024_i32_159
  let c512_i32_164 : BitVec 32 := 512#32
  ![v203.toNat, 512]
def k0_off7 (d0 : Dev nD) (c0_i32_166 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1024_i32_165 : BitVec 32 := 1024#32
  let v209 : BitVec 32 := Scalar.muli v35 c1024_i32_165
  let v210 : BitVec 32 := Scalar.addi v209 c0_i32_166
  let c0_i32_174 : BitVec 32 := 0#32
  ![v210.toNat, 0]
def k0_dev8 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_170 : BitVec 32 := 1#32
  let v211 : BitVec 32 := Scalar.muli v35 c1_i32_170
  let v212 : BitVec 32 := Scalar.addi c0_i32_171 v211
  v212.toNat
def k0_dev9 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_179 : BitVec 32 := 1#32
  let v222 : BitVec 32 := Scalar.muli v35 c1_i32_179
  let v223 : BitVec 32 := Scalar.addi c0_i32_180 v222
  v223.toNat
def k0_dev10 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_189 : BitVec 32 := 1#32
  let v233 : BitVec 32 := Scalar.muli v35 c1_i32_189
  let v234 : BitVec 32 := Scalar.addi c0_i32_190 v233
  v234.toNat
def k0_dev11 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_197 : BitVec 32 := 1#32
  let v244 : BitVec 32 := Scalar.muli v35 c1_i32_197
  let v245 : BitVec 32 := Scalar.addi c0_i32_198 v244
  v245.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_210 : BitVec 32 := 1024#32
  let v261 : BitVec 32 := Scalar.muli v2 c1024_i32_210
  let v262 : Index := Scalar.indexCast v261
  let c0_211 : Index := 0#32
  ![v262.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_212 : BitVec 32 := 1024#32
  let v266 : BitVec 32 := Scalar.muli v2 c1024_i32_212
  let c0_i32_217 : BitVec 32 := 0#32
  ![v266.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_226 : BitVec 32 := 1024#32
  let v280 : BitVec 32 := Scalar.muli v2 c1024_i32_226
  let v281 : Index := Scalar.indexCast v280
  let c512_227 : Index := 512#32
  ![v281.toNat, 512]
def k0_off11 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1024_i32_228 : BitVec 32 := 1024#32
  let v285 : BitVec 32 := Scalar.muli v24 c1024_i32_228
  let c0_i32_233 : BitVec 32 := 0#32
  ![v285.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_242 : BitVec 32 := 1024#32
  let v299 : BitVec 32 := Scalar.muli v2 c1024_i32_242
  let v300 : Index := Scalar.indexCast v299
  let c0_243 : Index := 0#32
  ![v300.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_250 : BitVec 32 := 1024#32
  let v310 : BitVec 32 := Scalar.muli v2 c1024_i32_250
  let v311 : Index := Scalar.indexCast v310
  let c0_251 : Index := 0#32
  ![v311.toNat, 0]
def k0_off14 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1024_i32_264 : BitVec 32 := 1024#32
  let v326 : BitVec 32 := Scalar.muli v24 c1024_i32_264
  let v327 : Index := Scalar.indexCast v326
  let c0_265 : Index := 0#32
  ![v327.toNat, 0]
def k0_dev12 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_483 : BitVec 32 := 1#32
  let v551 : BitVec 32 := Scalar.muli v13 c1_i32_483
  let v552 : BitVec 32 := Scalar.addi c0_i32_484 v551
  v552.toNat
def k0_dev13 (d0 : Dev nD) : Nat :=
  let c0_i32_493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_492 : BitVec 32 := 1#32
  let v560 : BitVec 32 := Scalar.muli v24 c1_i32_492
  let v561 : BitVec 32 := Scalar.addi c0_i32_493 v560
  v561.toNat
def k0_dev14 (d0 : Dev nD) : Nat :=
  let c0_i32_502 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_501 : BitVec 32 := 1#32
  let v569 : BitVec 32 := Scalar.muli v35 c1_i32_501
  let v570 : BitVec 32 := Scalar.addi c0_i32_502 v569
  v570.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.KernelIdeal.Base.lean ====
/-
The four-device kernel: the resources its proof speaks about, the devices' neighbours, the semaphore cells, the
elements each transfer moves and what every buffer is to hold, and the schedule of the transfers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.Rounds
public import Idealize.ShloMosaic.Lib.ValueIdxCore

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The resource algebra: the pipeline's rounds, the mesh's rounds, the local transfers' counters -/

abbrev UB : Type := URounds (GSem nD τ sig) (Fin 3)
abbrev UV : Type := UB × Counters
abbrev UU : Type := UR sig nD τ × UV

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB UV).trans embR
abbrev EC : UEmb Counters (MT nD τ sig Unit (Elt F) ℕ UU ℕ) := countersEmb

instance : (ER (F := F)).LandsIn (upEmb : UEmb _ 𝕄) := inferInstance
instance : (EC (F := F)).LandsIn (upEmb : UEmb _ 𝕄) := inferInstance

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

abbrev 𝒱₀ : Variants := Variants.none

/-! ## Neighbours. Slot `s` of a device's landing buffers is written by `src s`; a device writes slot `s` of `dst s`. -/

/-- The device `k` further along the ring of four. -/
def rot (k : ℕ) (c : Dev nD) : Dev nD := ⟨(c.val + k) % 4, Nat.mod_lt _ (by decide)⟩
/-- The device whose slot `s` device `c` writes: its right neighbour, its left one, the opposite one. -/
def dst (s : Fin 3) (c : Dev nD) : Dev nD := rot (![1, 3, 2] s) c
/-- The device that writes device `c`'s slot `s`. -/
def src (s : Fin 3) (c : Dev nD) : Dev nD := rot (![3, 1, 2] s) c

theorem src_dst : ∀ (s : Fin 3) (c : Dev nD), src s (dst s c) = c := by decide
theorem dst_src : ∀ (s : Fin 3) (c : Dev nD), dst s (src s c) = c := by decide

/-! ## The semaphore cells -/

/-- The barrier semaphore. -/
abbrev barS : Sem sig := (SemArray.scalar (sig.barrier 0 rfl) : Sems sig S_).sem

/-- The DMA semaphore behind each cell but the barrier's: 1–8 the x sends, 9–11 the scalar sends, 12–19 the x
    landings, 20–22 the scalar landings. -/
abbrev semN : Fin 23 → DmaSem sig :=
  ![0, 1, 2, 3, 4, 5, 6, 7, 8, 17, 19, 21, 9, 10, 11, 12, 13, 14, 15, 16, 23, 25, 27]

/-- The semaphore of cell `k`. -/
def csem (k : Fin 23) : SemLoc sig := if k = 0 then .reg barS else .dma (semN k)

/-- The cell of a DMA semaphore by its number, `23` for the semaphores with none. -/
def cellTab : List (Fin 24) :=
  [23, 1, 2, 3, 4, 5, 6, 7, 8, 12, 13, 14, 15, 16, 17, 18, 19, 9, 23, 10, 23, 11, 23, 20, 23, 21, 23, 22, 23, 23, 23]

/-- Which cell a semaphore is, `23` if none. -/
def kOf : SemLoc sig → Fin 24
  | .reg _ => 0
  | .dma q => cellTab.getD q.val 23

theorem kOf_csem : ∀ k : Fin 23, kOf (csem k) = k.castSucc := by decide

abbrev kcell (c : Dev nD) (k : Fin 23) : GSem nD τ sig := ((c : Thread nD τ), csem k)
/-- The send and landing cells of transfer `j`. -/
abbrev sK (j : Fin 11) : Fin 23 := ⟨1 + j.val, by omega⟩
abbrev rK (j : Fin 11) : Fin 23 := ⟨12 + j.val, by omega⟩

theorem csem_injective : Function.Injective csem := by decide

/-! ## The buffers, the elements of each transfer -/

abbrev aM : Memref sig .tc .hbm S4096x1024 .f32 := Memref.whole main_arg0
abbrev bM : Memref sig .tc .hbm S4096x2048 .f32 := Memref.whole main_arg1
abbrev oM : Memref sig .tc .vmem S1024x2048 .f32 := Memref.whole cc0_stg0_0
abbrev xM : Memref sig .tc .vmem S4096x1024 .bf16 := Memref.whole cc0_scratch0
abbrev wM : Memref sig .tc .vmem S4096x2048 .bf16 := Memref.whole cc0_scratch1
abbrev rM : Memref sig .tc .vmem S3x1024x1024 .bf16 := Memref.whole cc0_scratch2
abbrev gM : Memref sig .tc .vmem S2x1024x2048 .f32 := Memref.whole cc0_scratch3
abbrev pM : Memref sig .tc .vmem S2x128 .f32 := Memref.whole cc0_scratch4
abbrev qM : Memref sig .tc .vmem S3x2x128 .f32 := Memref.whole cc0_scratch5

/-- The elements from `off` on, `size` of them along each axis. -/
def box {s : Shape} (off size : Fin s.rank → ℕ) : Finset s.Idx :=
  Finset.univ.filter fun i => ∀ a, off a ≤ (i a).val ∧ (i a).val < off a + size a

theorem mem_box {s : Shape} {off size : Fin s.rank → ℕ} {i : s.Idx} :
    i ∈ box off size ↔ ∀ a, off a ≤ (i a).val ∧ (i a).val < off a + size a := by
  unfold box; rw [Finset.mem_filter]; exact ⟨fun h => h.2, fun h => ⟨Finset.mem_univ _, h⟩⟩

theorem unit_set {s : Shape} (off size : Fin s.rank → ℕ) (inb : ∀ a, off a + size a ≤ s.size a) :
    (Rect.unit (s := s) off size inb).set = box off size := by
  ext i
  rw [mem_box, Rect.mem_set_unit]

/-- Rows `r …` (`h` of them) and columns `k …` (`w` of them) of a matrix. -/
abbrev bx2 {n0 n1 : ℕ} (r h k w : ℕ) : Finset (⟨2, ![n0, n1]⟩ : Shape).Idx := box ![r, k] ![h, w]
abbrev bx3 {n0 n1 n2 : ℕ} (t d r h k w : ℕ) : Finset (⟨3, ![n0, n1, n2]⟩ : Shape).Idx := box ![t, r, k] ![d, h, w]

theorem mem_bx2 {n0 n1 r h k w : ℕ} {i : (⟨2, ![n0, n1]⟩ : Shape).Idx} :
    i ∈ (bx2 r h k w : Finset (⟨2, ![n0, n1]⟩ : Shape).Idx)
      ↔ (r ≤ (i 0).val ∧ (i 0).val < r + h) ∧ (k ≤ (i 1).val ∧ (i 1).val < k + w) := by
  rw [mem_box]; exact Fin.forall_fin_two
theorem mem_bx3 {n0 n1 n2 t d r h k w : ℕ} {i : (⟨3, ![n0, n1, n2]⟩ : Shape).Idx} :
    i ∈ (bx3 t d r h k w : Finset (⟨3, ![n0, n1, n2]⟩ : Shape).Idx)
      ↔ (t ≤ (i 0).val ∧ (i 0).val < t + d) ∧ (r ≤ (i 1).val ∧ (i 1).val < r + h) ∧ (k ≤ (i 2).val ∧ (i 2).val < k + w) := by
  rw [mem_box, Fin.forall_fin_succ, Fin.forall_fin_two]; rfl

/-- Transfer `j`'s source in the rows buffer, for `j < 8`: which neighbour's rows, from which row and column, how many. -/
abbrev jRot : Fin 11 → ℕ := ![1, 1, 2, 2, 2, 2, 3, 3, 0, 0, 0]
abbrev jRow : Fin 11 → ℕ := ![0, 0, 0, 256, 512, 768, 0, 0, 0, 0, 0]
abbrev jCol : Fin 11 → ℕ := ![0, 512, 0, 0, 0, 0, 0, 512, 0, 0, 0]
abbrev jH : Fin 11 → ℕ := ![1024, 1024, 256, 256, 256, 256, 1024, 1024, 0, 0, 0]
abbrev jW : Fin 11 → ℕ := ![512, 512, 1024, 1024, 1024, 1024, 512, 512, 0, 0, 0]
/-- The slot transfer `j` lands in. -/
abbrev jSlot : Fin 11 → Fin 3 := ![0, 0, 2, 2, 2, 2, 1, 1, 0, 1, 2]

/-- First row of the rows of the device `k` along from `c`. -/
abbrev row (c : Dev nD) (k : ℕ) : ℕ := 1024 * ((c.val + k) % 4)

theorem row_lt (c : Dev nD) (k : ℕ) (i : Fin 1024) : row c k + i.val < 4096 := by
  have := Nat.mod_lt (c.val + k) (show 0 < 4 by decide); have := i.isLt; unfold row; omega

/-! ## What the buffers are to hold -/

/-- Device `c`'s block of the first factor, and its copy of the second. -/
abbrev aF (c : Dev nD) : FVec F S4096x1024 .f32 := m ((c : Thread nD τ).loc main_arg0)
abbrev bF (c : Dev nD) : FVec F S4096x2048 .f32 := m ((c : Thread nD τ).loc main_arg1)
/-- Both rounded to the factors' type. -/
def xF (c : Dev nD) : FVec F S4096x1024 .bf16 := truncf .bf16 (aF m c) bitsLt_bf16_f32
def wF (c : Dev nD) : FVec F S4096x2048 .bf16 := truncf .bf16 (bF m c) bitsLt_bf16_f32
/-- The landing buffer: slot `s` holds `c`'s rows of what `src s c` holds. -/
def rF (c : Dev nD) : FVec F S3x1024x1024 .bf16 := fun i =>
  xF m (src (i 0) c) (ix2 ⟨row c 0 + (i 1).val, row_lt c 0 (i 1)⟩ (i 2))

/-- Loads of what the buffers hold. -/
def ldx (c : Dev nD) : Vec F S1024x1024 .bf16 :=
  (xM.access (Rect.unit (s := S4096x1024) (k0_off13 c) S1024x1024.size (k0_off13_inb c))).read (Elt F) (xF m c)
def ldw0 (c : Dev nD) : Vec F S1024x2048 .bf16 :=
  (wM.access (Rect.unit (s := S4096x2048) (k0_off12 c) S1024x2048.size (k0_off12_inb c))).read (Elt F) (wF m c)
def ldw3 (c : Dev nD) : Vec F S1024x2048 .bf16 :=
  (wM.access (Rect.unit (s := S4096x2048) (k0_off14 c 3#32) S1024x2048.size (k0_off14_inb c 2))).read (Elt F) (wF m c)
def ldw1 (c : Dev nD) : Vec F S1024x2048 .bf16 :=
  (wM.access (Rect.unit (s := S4096x2048) (k0_off14 c 1#32) S1024x2048.size (k0_off14_inb c 0))).read (Elt F) (wF m c)
def ldw2 (c : Dev nD) : Vec F S1024x2048 .bf16 :=
  (wM.access (Rect.unit (s := S4096x2048) (k0_off14 c 2#32) S1024x2048.size (k0_off14_inb c 1))).read (Elt F) (wF m c)

theorem inb_ldr (s : Fin 3) : ∀ a, (![s.val, 0, 0] : Fin 3 → ℕ) a + S1x1024x1024.size a ≤ S3x1024x1024.size a := by
  revert s; decide
theorem inb_ldq (q : Fin 4) : ∀ a, (![2, 256 * q.val, 0] : Fin 3 → ℕ) a + S1x256x1024.size a ≤ S3x1024x1024.size a := by
  revert q; decide
theorem inb_ldo (q : Fin 4) : ∀ a, (![256 * q.val, 0] : Fin 2 → ℕ) a + S256x2048.size a ≤ S1024x2048.size a := by
  revert q; decide
theorem inb_lda (s : Fin 3) : ∀ a, (![s.val, 0, 0] : Fin 3 → ℕ) a + S1x1x1.size a ≤ S3x2x128.size a := by
  revert s; decide

def ldr (c : Dev nD) (s : Fin 3) : Vec F S1x1024x1024 .bf16 :=
  (rM.access (Rect.unit (s := S3x1024x1024) ![s.val, 0, 0] S1x1024x1024.size (inb_ldr s))).read (Elt F) (rF m c)
def ldq (c : Dev nD) (q : Fin 4) : Vec F S1x256x1024 .bf16 :=
  (rM.access (Rect.unit (s := S3x1024x1024) ![2, 256 * q.val, 0] S1x256x1024.size (inb_ldq q))).read (Elt F) (rF m c)

/-- The output block after each product is added. -/
def o0 (c : Dev nD) : FVec F S1024x2048 .f32 := k0_pay15 (ldx m c) (ldw0 m c)
def o1 (c : Dev nD) : FVec F S1024x2048 .f32 := k0_pay19 (k0_pay17 (o0 m c)) (k0_pay18 (ldr m c 0) (ldw3 m c))
def o2 (c : Dev nD) : FVec F S1024x2048 .f32 := k0_pay21 (o1 m c) (ldr m c 1) (ldw1 m c)
/-- A quarter of the rows of the output block before the last product is added, -/
def ldo (c : Dev nD) (q : Fin 4) : Vec F S256x2048 .f32 :=
  (oM.access (Rect.unit (s := S1024x2048) ![256 * q.val, 0] S256x2048.size (inb_ldo q))).read (Elt F) (o2 m c)
/-- and after. -/
def qv (c : Dev nD) : Fin 4 → FVec F S256x2048 .f32
  | 0 => k0_pay23 (ldo m c 0) (ldq m c 0) (ldw2 m c)
  | 1 => k0_pay27 (k0_pay25 (ldo m c 1)) (k0_pay26 (ldq m c 1)) (ldw2 m c)
  | 2 => k0_pay29 (ldo m c 2) (ldq m c 2) (ldw2 m c)
  | 3 => k0_pay31 (ldo m c 3) (ldq m c 3) (ldw2 m c)
/-- The output block with every product added. -/
def o3 (c : Dev nD) : FVec F S1024x2048 .f32 := fun i =>
  qv m c ⟨(i 0).val / 256, by have := idx2_lt0 i; omega⟩ (ix2 ⟨(i 0).val % 256, Nat.mod_lt _ (by decide)⟩ (i 1))

/-- The two halves of the largest magnitude in device `c`'s block, and that. -/
def mxa (c : Dev nD) : F .f32 := k0_pay32 (k0_pay24 (qv m c 0)) (k0_pay28 (qv m c 1))
def mxb (c : Dev nD) : F .f32 := k0_pay33 (k0_pay30 (qv m c 2)) (qv m c 3)
def mx (c : Dev nD) : F .f32 := k0_pay34 (mxa m c) (mxb m c)

/-- What a device sends of it, and where the others' land. -/
def pF (c : Dev nD) : FVec F S2x128 .f32 := fun _ => mx m c
def qF (c : Dev nD) : FVec F S3x2x128 .f32 := fun i => mx m (src (i 0) c)
def lda (c : Dev nD) (s : Fin 3) : Vec F S1x1x1 .f32 :=
  (qM.access (Rect.unit (s := S3x2x128) ![s.val, 0, 0] S1x1x1.size (inb_lda s))).read (Elt F) (qF m c)

/-- The largest magnitude over the other devices but the opposite one, the result. -/
def mx2 (c : Dev nD) : F .f32 := k0_pay36 (mx m c) (lda m c 0) (lda m c 1)
def outF (c : Dev nD) : FVec F S1024x2048 .f32 :=
  k0_pay1 (k0_pay37 (mx2 m c) (lda m c 2)) (k0_pay38 (o3 m c)) (k0_pay39 (mx2 m c) (lda m c 2))

/-! ## Points-tos -/

abbrev xP (c : Dev nD) (S : Finset S4096x1024.Idx) (f : FVec F S4096x1024 .bf16) : sProp 𝕄 :=
  xM.view.loc (c : Thread nD τ) ↦[S]{fullShare} f
abbrev wP (c : Dev nD) (S : Finset S4096x2048.Idx) (f : FVec F S4096x2048 .bf16) : sProp 𝕄 :=
  wM.view.loc (c : Thread nD τ) ↦[S]{fullShare} f
abbrev rP (c : Dev nD) (S : Finset S3x1024x1024.Idx) (f : FVec F S3x1024x1024 .bf16) : sProp 𝕄 :=
  rM.view.loc (c : Thread nD τ) ↦[S]{fullShare} f
abbrev gP (c : Dev nD) (S : Finset S2x1024x2048.Idx) (f : FVec F S2x1024x2048 .f32) : sProp 𝕄 :=
  gM.view.loc (c : Thread nD τ) ↦[S]{fullShare} f
abbrev oP (c : Dev nD) (S : Finset S1024x2048.Idx) (f : FVec F S1024x2048 .f32) : sProp 𝕄 :=
  oM.view.loc (c : Thread nD τ) ↦[S]{fullShare} f
abbrev pP (c : Dev nD) (S : Finset S2x128.Idx) (q : PosShare TreeShare) (f : FVec F S2x128 .f32) : sProp 𝕄 :=
  pM.view.loc (c : Thread nD τ) ↦[S]{q} f
abbrev qP (c : Dev nD) (S : Finset S3x2x128.Idx) (f : FVec F S3x2x128 .f32) : sProp 𝕄 :=
  qM.view.loc (c : Thread nD τ) ↦[S]{fullShare} f
abbrev aP (c : Dev nD) (q : PosShare TreeShare) (S : Finset S4096x1024.Idx) : sProp 𝕄 :=
  aM.view.loc (c : Thread nD τ) ↦[S]{q} aF m c
abbrev bP (c : Dev nD) (q : PosShare TreeShare) (S : Finset S4096x2048.Idx) : sProp 𝕄 :=
  bM.view.loc (c : Thread nD τ) ↦[S]{q} bF m c

/-! ## The schedule -/

/-- The share of the scalar row that transfer `8 + s` reads. -/
abbrev pShare : Fin 3 → PosShare TreeShare := ![fullShare.left, fullShare.right.left, fullShare.right.right]

/-- The elements of the rows buffer transfer `j` reads, of the landing buffer it writes. -/
abbrev xBox (c : Dev nD) (j : Fin 11) : Finset S4096x1024.Idx :=
  bx2 (row c (jRot j) + jRow j) (jH j) (jCol j) (jW j)
abbrev rBox (j : Fin 11) : Finset S3x1024x1024.Idx :=
  bx3 (jSlot j).val 1 (jRow j) (jH j) (jCol j) (jW j)
/-- The row of slot `s` of the scalars' landing buffer. -/
abbrev qBox (s : Fin 3) : Finset S3x2x128.Idx := bx3 s.val 1 0 1 0 128
abbrev pBox : Finset S2x128.Idx := bx2 0 1 0 128
/-- The whole of slot `s` of the landing buffer. -/
abbrev slotBox (s : Fin 3) : Finset S3x1024x1024.Idx := bx3 s.val 1 0 1024 0 1024

/-- What the issuer has back when transfer `j` has left, -/
def sendPay (c : Dev nD) (j : Fin 11) : sProp 𝕄 :=
  if j.val < 8 then xP c (xBox c j) (xF m c) else pP c pBox (pShare (jSlot j)) (pF m c)
/-- what the receiver has when it has landed, -/
def recvPay (c : Dev nD) (j : Fin 11) : sProp 𝕄 :=
  if j.val < 8 then rP c (rBox j) (rF m c) else qP c (qBox (jSlot j)) (qF m c)
/-- what `dst s c`'s signal hands `c`: its slots `s`. -/
def barPay (c : Dev nD) (s : Fin 3) : sProp 𝕄 :=
  iprop((∃ f, rP (dst s c) (slotBox s) f) ∗ ∃ f, qP (F := F) (dst s c) (qBox s) f)

omit [FloatOps F] in
instance barPay_storable (c : Dev nD) (s : Fin 3) : BI.Storable (upEmb : UEmb _ 𝕄) (barPay (F := F) c s) := by
  unfold barPay; infer_instance
instance sendPay_storable (c : Dev nD) (j : Fin 11) : BI.Storable (upEmb : UEmb _ 𝕄) (sendPay m c j) := by
  unfold sendPay; split <;> infer_instance
instance recvPay_storable (c : Dev nD) (j : Fin 11) : BI.Storable (upEmb : UEmb _ 𝕄) (recvPay m c j) := by
  unfold recvPay; split <;> infer_instance

/-- The credit of the three sizes of transfer: a half of the columns, a quarter of the rows, a row of the scalars. -/
abbrev cX : ℕ := sig.dmaCredit .tc (Kind.tc.table .vmem) cc0_scratch2.idx S1024x512 .bf16
abbrev cQ : ℕ := sig.dmaCredit .tc (Kind.tc.table .vmem) cc0_scratch2.idx S256x1024 .bf16
abbrev cA : ℕ := sig.dmaCredit .tc (Kind.tc.table .vmem) cc0_scratch5.idx S1x128 .f32

/-- Transfer `j`'s credit. -/
def amt (j : Fin 11) : ℕ := ![cX, cX, cQ, cQ, cQ, cQ, cX, cX, cA, cA, cA] j
theorem amt_pos (j : Fin 11) : 0 < amt j := by
  revert j; decide +kernel

/-- The transfer behind a send or landing cell. -/
abbrev jOf (k : Fin 24) : Fin 11 := ⟨(k.val - 1) % 11, Nat.mod_lt _ (by decide)⟩

/-- Cell `k`'s duties in its one round, what each credits and hands over. -/
def dutK (k : Fin 24) : Finset (Fin 3) := if k.val = 0 then Finset.univ else if k.val < 23 then {0} else ∅
def amtK (k : Fin 24) : ℕ := if k.val = 0 then 1 else amt (jOf k)
def payK (c : Dev nD) (k : Fin 24) (d : Fin 3) : sProp 𝕄 :=
  if k.val = 0 then barPay c d else if k.val < 12 then sendPay m c (jOf k) else recvPay m c (jOf k)

def meshRd : Rounds.Schedule (GSem nD τ sig) (Fin 3) 𝕄 where
  duties g r := if r = 0 ∧ g.1.2 = .tc then dutK (kOf g.2) else ∅
  unitless _ := False
  amount g _ _ := amtK (kOf g.2)
  payload g _ d := payK m g.1.1 (kOf g.2) d
  amount_pos g _ _ _ := by
    unfold amtK; split
    · exact Nat.one_pos
    · exact amt_pos _

instance meshRd_payload_storable (g : GSem nD τ sig) (r : ℕ) (d : Fin 3) :
    BI.Storable (upEmb : UEmb _ 𝕄) ((meshRd m).payload g r d) := by
  show BI.Storable upEmb (payK m g.1.1 (kOf g.2) d)
  unfold payK
  (repeat' split) <;> infer_instance

section Tables
variable (c : Dev nD)

theorem duties_cell (k : Fin 23) : (meshRd m).duties (kcell c k) 0 = dutK k.castSucc := by
  dsimp only [meshRd]; rw [if_pos ⟨rfl, rfl⟩, kOf_csem]
theorem duties_later (g : GSem nD τ sig) : ∀ r, 1 ≤ r → (meshRd m).duties g r = ∅ :=
  fun r hr => by dsimp only [meshRd]; rw [if_neg fun h => by omega]
theorem duties_bar : (meshRd m).duties (kcell c 0) 0 = Finset.univ := (duties_cell m c 0).trans rfl
theorem duties_send (j : Fin 11) : (meshRd m).duties (kcell c (sK j)) 0 = {0} := by
  rw [duties_cell]; unfold dutK; rw [if_neg (by simp [sK]), if_pos (by have := j.isLt; simp [sK]; omega)]
theorem duties_recv (j : Fin 11) : (meshRd m).duties (kcell c (rK j)) 0 = {0} := by
  rw [duties_cell]; unfold dutK; rw [if_neg (by simp [rK]), if_pos (by have := j.isLt; simp [rK]; omega)]

theorem amount_cell (k : Fin 23) (d : Fin 3) : (meshRd m).amount (kcell c k) 0 d = amtK k.castSucc := by
  dsimp only [meshRd]; rw [kOf_csem]
theorem jOf_sK (j : Fin 11) : jOf (sK j).castSucc = j := by revert j; decide
theorem jOf_rK (j : Fin 11) : jOf (rK j).castSucc = j := by revert j; decide
theorem amount_bar (d : Fin 3) : (meshRd m).amount (kcell c 0) 0 d = 1 := (amount_cell m c 0 d).trans rfl
theorem amount_send (j : Fin 11) (d : Fin 3) : (meshRd m).amount (kcell c (sK j)) 0 d = amt j := by
  rw [amount_cell]; unfold amtK; rw [if_neg (by simp [sK]), jOf_sK]
theorem amount_recv (j : Fin 11) (d : Fin 3) : (meshRd m).amount (kcell c (rK j)) 0 d = amt j := by
  rw [amount_cell]; unfold amtK; rw [if_neg (by simp [rK]), jOf_rK]

theorem expect_bar : (meshRd m).expect (kcell c 0) 0 = 3 := by
  unfold Rounds.Schedule.expect Rounds.Schedule.amountOf
  rw [duties_bar, Finset.sum_congr rfl fun d _ => amount_bar m c d, Finset.sum_const, Finset.card_univ, Fintype.card_fin, smul_eq_mul]
theorem expect_send (j : Fin 11) : (meshRd m).expect (kcell c (sK j)) 0 = amt j := by
  unfold Rounds.Schedule.expect Rounds.Schedule.amountOf; rw [duties_send, Finset.sum_singleton, amount_send]
theorem expect_recv (j : Fin 11) : (meshRd m).expect (kcell c (rK j)) 0 = amt j := by
  unfold Rounds.Schedule.expect Rounds.Schedule.amountOf; rw [duties_recv, Finset.sum_singleton, amount_recv]

theorem payload_cell (k : Fin 23) (d : Fin 3) : (meshRd m).payload (kcell c k) 0 d = payK m c k.castSucc d := by
  dsimp only [meshRd]; rw [kOf_csem]
theorem payload_bar (d : Fin 3) : (meshRd m).payload (kcell c 0) 0 d = barPay c d := by
  rw [payload_cell]; unfold payK; exact if_pos rfl
theorem payload_send (j : Fin 11) (d : Fin 3) : (meshRd m).payload (kcell c (sK j)) 0 d = sendPay m c j := by
  rw [payload_cell]; unfold payK; rw [if_neg (by simp [sK]), if_pos (by have := j.isLt; simp [sK]; omega), jOf_sK]
theorem payload_recv (j : Fin 11) (d : Fin 3) : (meshRd m).payload (kcell c (rK j)) 0 d = recvPay m c j := by
  rw [payload_cell]; unfold payK; rw [if_neg (by simp [rK]), if_neg (by simp [rK]), jOf_rK]

theorem bigSep_three (Φ : Fin 3 → sProp 𝕄) : bigSep Finset.univ Φ = iprop(Φ 0 ∗ Φ 1 ∗ Φ 2) :=
  bigSep_univ_eq_bigSepL [0, 1, 2] (by decide) (by decide) Φ
theorem rest_bar : bigSep ((meshRd m).duties (kcell c 0) 0 \ ∅) (fun d => (meshRd m).payload (kcell c 0) 0 d)
    = iprop(barPay c 0 ∗ barPay c 1 ∗ barPay c 2) := by
  rw [Finset.sdiff_empty, duties_bar, bigSep_three, payload_bar, payload_bar, payload_bar]
theorem rest_send (j : Fin 11) : bigSep ((meshRd m).duties (kcell c (sK j)) 0 \ ∅) (fun d => (meshRd m).payload (kcell c (sK j)) 0 d) = sendPay m c j := by
  rw [Finset.sdiff_empty, duties_send, bigSep_singleton, payload_send]
theorem rest_recv (j : Fin 11) : bigSep ((meshRd m).duties (kcell c (rK j)) 0 \ ∅) (fun d => (meshRd m).payload (kcell c (rK j)) 0 d) = recvPay m c j := by
  rw [Finset.sdiff_empty, duties_recv, bigSep_singleton, payload_recv]

end Tables

/-! ## What each device owes, and the levels -/

/-- A list of debts, each to a device's cell; the head is the one paid first. -/
def owL : List (Dev nD × Fin 23) → CellTallies nD τ sig Unit
  | [] => 0
  | p :: ps => owL ps + tallyAt (kcell p.1 p.2) () (amtK p.2.castSucc)

/-- Device `c`'s debts in the order it pays them: a unit to each other device's barrier, the eight row transfers, the
    three scalar ones. -/
def debts (c : Dev nD) : List (Dev nD × Fin 23) :=
  [(src 1 c, 0), (src 0 c, 0), (src 2 c, 0),
   (dst 0 c, rK 0), (dst 1 c, rK 6), (dst 0 c, rK 1), (dst 1 c, rK 7),
   (dst 2 c, rK 2), (dst 2 c, rK 3), (dst 2 c, rK 4), (dst 2 c, rK 5),
   (dst 0 c, rK 8), (dst 1 c, rK 9), (dst 2 c, rK 10)]
/-- What is left to pay after the first `n`. -/
def debt (c : Dev nD) (n : ℕ) : CellTallies nD τ sig Unit := owL ((debts c).drop n)

/-- The level of a cell: the barrier 1, row landings 2, scalar landings 3, the rest 0. -/
def lvK (k : Fin 24) : ℕ := if k.val = 0 then 1 else if k.val < 12 then 0 else if k.val < 20 then 2 else if k.val < 23 then 3 else 0

def L (g : GSem nD τ sig) : Finset Unit := if g.1.2 = .tc then {()} else ∅
def lv (g : GSem nD τ sig) (_ : Unit) : ℕ := lvK (kOf g.2)

theorem L_of_ne (g : GSem nD τ sig) (h : g.1.2 ≠ .tc) : L g = ∅ := if_neg h
theorem L_tc (c : Dev nD) (sm : SemLoc sig) : L ((c : Thread nD τ), sm) = {()} := if_pos rfl

theorem owL_pos {l : List (Dev nD × Fin 23)} {g : GSem nD τ sig} {u : Unit} (h : 0 < owL l g u) : ∃ p ∈ l, g = kcell p.1 p.2 := by
  induction l with
  | nil => exact absurd h (Nat.lt_irrefl 0)
  | cons p ps ih =>
    unfold owL at h
    rw [Pi.add_apply, Finsupp.add_apply, tallyAt_apply] at h
    by_cases hg : g = kcell p.1 p.2 ∧ u = ()
    · exact ⟨p, List.mem_cons_self, hg.1⟩
    · rw [if_neg hg, Nat.add_zero] at h
      obtain ⟨p', hp', h'⟩ := ih h
      exact ⟨p', List.mem_cons_of_mem _ hp', h'⟩

/-- A device may wait on a semaphore while every debt it has left is to a cell of a higher level. -/
theorem mayWait (c : Dev nD) (sm : SemLoc sig) (l : List (Dev nD × Fin 23)) (h : ∀ p ∈ l, lvK (kOf sm) < lvK p.2.castSucc) :
    (levAts L lv : sProp 𝕄) ⊢ MayWait (c : Thread nD τ) sm () (owL l) :=
  MayOwe.of_cut (L := L) (lev := lv) (lvK (kOf sm)) (fun p hp => by rw [Finset.mem_singleton.mp hp, L_tc]; exact Finset.mem_singleton_self _)
    (fun g u hg => by obtain ⟨p, _, rfl⟩ := owL_pos hg; exact Finset.mem_singleton_self _)
    (fun p hp => by rw [Finset.mem_singleton.mp hp]; exact le_refl _)
    (fun g u hg => by
      obtain ⟨p, hp, rfl⟩ := owL_pos hg
      have := h p hp
      unfold lv; rw [kOf_csem]; exact this)

end Cert.KernelIdeal.Mesh
end
-- ==== Proof.KernelIdeal.Rules.lean ====
/-
How the four-device kernel's transfers between devices and its barrier run, one rule per operation.
-/
module

public import proofs.«01_k».proof.Proof.KernelIdeal.Base

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

/-! ## The persistent records, and what a device holds of each transfer -/

variable (K : Dev nD × Fin 23 → ℕ)

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, that each has reached its round, and the levels. -/
def Recs : sProp 𝕄 :=
  iprop((bigSep Finset.univ fun ck : Dev nD × Fin 23 => cellInv ER (meshRd m) (K ck) (kcell ck.1 ck.2))
    ∗ (bigSep Finset.univ fun ck : Dev nD × Fin 23 => reached ER (kcell ck.1 ck.2) 0) ∗ levAts L lv)

instance Recs_persistent : BI.Persistent (Recs m K) := by unfold Recs; infer_instance

theorem inv_at (c : Dev nD) (k : Fin 23) : Recs m K ⊢ cellInv ER (meshRd m) (K (c, k)) (kcell c k) :=
  sep_elim_left.trans (bigSep_elim (Φ := fun ck : Dev nD × Fin 23 => (cellInv ER (meshRd m) (K ck) (kcell ck.1 ck.2) : sProp 𝕄)) (Finset.mem_univ (c, k)))
theorem reached_at (c : Dev nD) (k : Fin 23) : Recs m K ⊢ reached ER (kcell c k) 0 :=
  sep_elim_right.trans (sep_elim_left.trans (bigSep_elim (Φ := fun ck : Dev nD × Fin 23 => (reached ER (kcell ck.1 ck.2) 0 : sProp 𝕄)) (Finset.mem_univ (c, k))))
theorem lev_at : Recs m K ⊢ levAts L lv := sep_elim_right.trans sep_elim_right

/-- What device `c` owes once it has paid its first `n` debts. -/
def Ow (c : Dev nD) (n : ℕ) : sProp 𝕄 := iprop(∃ W, owes (c : Thread nD τ) (debt c n) W)
/-- What it needs to issue transfer `j`; what it holds once issued; what it holds to wait for the transfer landing here. -/
def Tok (c : Dev nD) (j : Fin 11) : sProp 𝕄 :=
  iprop(dutyTok ER (kcell c (sK j)) 0 0 ∗ dutyTok ER (kcell (dst (jSlot j) c) (rK j)) 0 0 ∗ atPos ER (kcell c (sK j)) 0 ∅ 0)
def Sent (c : Dev nD) (j : Fin 11) : sProp 𝕄 :=
  iprop(cred (tallyAt (kcell c (sK j)) () (amt j)) ∗ atPos ER (kcell c (sK j)) 0 ∅ 0)
def Exp (c : Dev nD) (j : Fin 11) : sProp 𝕄 :=
  iprop(cred (tallyAt (kcell c (rK j)) () (amt j)) ∗ atPos ER (kcell c (rK j)) 0 ∅ 0)

/-- Where transfer `j` comes among the debts. -/
abbrev jPos : Fin 11 → ℕ := ![3, 5, 7, 8, 9, 10, 4, 6, 11, 12, 13]

theorem debt_send (c : Dev nD) (j : Fin 11) :
    debt c (jPos j) = debt c (jPos j + 1) + tallyAt (kcell (dst (jSlot j) c) (rK j)) () (amt j) := by
  have h : (debts c).drop (jPos j) = (dst (jSlot j) c, rK j) :: (debts c).drop (jPos j + 1) := by
    revert j; unfold debts; decide +revert
  unfold debt; rw [h]
  show owL _ + tallyAt _ _ (amtK _) = _
  unfold amtK; rw [if_neg (by simp [rK]), jOf_rK]

theorem lv_send : ∀ j : Fin 11, lvK (sK j).castSucc = 0 := by decide

theorem drop_lv (c : Dev nD) (n k : ℕ) (h : ((debts 0).drop n).all fun p => decide (k < lvK p.2.castSucc)) :
    ∀ p ∈ (debts c).drop n, k < lvK p.2.castSucc := by
  have e : ∀ c : Dev nD, (debts c).map (fun p => p.2) = (debts 0).map fun p => p.2 := fun _ => rfl
  have h' : (((debts 0).map fun p => p.2).drop n).all fun x : Fin 23 => decide (k < lvK x.castSucc) := by
    rw [← List.map_drop, List.all_map]; exact h
  rw [← e c, ← List.map_drop, List.all_map, List.all_eq_true] at h'
  exact fun p hp => of_decide_eq_true (h' p hp)

/-! ## Transfers between devices -/

/-- Issuing transfer `j`: its first payload is its source back, its second the receiver's slot as it lands. -/
theorem wp_send' (c n : Dev nD) (j : Fin 11) (hn : n = dst (jSlot j) c) {sh : Shape} {e : EltTy}
    {s d : Memref sig .tc .vmem sh e} {sS sR : DmaSem sig}
    (hS : csem (sK j) = .dma sS) (hR : csem (rK j) = .dma sR) (hN : d.view.amount (.dma sR) = amt j)
    {hsc : d.view.ref.isScScratch = false} {hsrc : s.view.WordExact} {hdst : d.view.WordExact}
    {hsem : DmaTarget.Typed .vmem (.dma sR) (.remote (Dev.tc n : Thread nD τ) d (.dma sS) hsc)}
    {α : Type} {Q : α → sProp 𝕄} {k : PUnit → Prog (TpuEff nD τ sig (Elt F) Λ₀ .tc) α} {q : PosShare TreeShare}
    {fs : Buf (Elt F) (s.view.loc (c : Thread nD τ))} {fd : Buf (Elt F) (d.view.loc (n : Thread nD τ))}
    (hpay₁ : (s.view.loc (c : Thread nD τ) ↦[s.view.set]{q} fs) ⊢ sendPay m c j)
    (hpay₂ : (d.view.loc (n : Thread nD τ) ↦[d.view.set]{fullShare} (d.view.write (Elt F) fd (s.view.read (Elt F) fs) Finset.univ))
      ⊢ recvPay m n j) :
    iprop(Recs m K ∗ (s.view.loc (c : Thread nD τ) ↦[s.view.set]{q} fs) ∗ (d.view.loc (n : Thread nD τ) ↦[d.view.set]{fullShare} fd)
        ∗ Ow c (jPos j) ∗ Tok c j)
      ⊢ iprop((iprop(Sent c j ∗ Ow c (jPos j + 1)) -∗ WP c (k ⟨⟩) Q)
          -∗ WP c (.op (.enqueueDma s (.remote (Dev.tc n : Thread nD τ) d (.dma sS) hsc) (.dma sR) hsrc hdst hsem) k) Q) := by
  subst hn
  have e1 : kcell c (sK j) = ((c : Thread nD τ), .dma sS) := by unfold kcell; rw [hS]
  have e2 : kcell (dst (jSlot j) c) (rK j) = ((dst (jSlot j) c : Thread nD τ), .dma sR) := by unfold kcell; rw [hR]
  unfold Ow Tok Sent
  iintro ⟨#HR, Hs, Hd, ⟨%W, HO⟩, Ht1, Ht2, Hat⟩ Hk
  ihave #HI1 := (inv_at m K c (sK j)) $$ HR
  ihave #HI2 := (inv_at m K (dst (jSlot j) c) (rK j)) $$ HR
  ihave #Hr1 := (reached_at m K c (sK j)) $$ HR
  ihave #Hr2 := (reached_at m K (dst (jSlot j) c) (rK j)) $$ HR
  have D1 := duties_send m c j
  have D2 := duties_recv m (dst (jSlot j) c) j
  have A1 := amount_send m c j 0
  have A2 := amount_recv m (dst (jSlot j) c) j 0
  have P1 := payload_send m c j 0
  have P2 := payload_recv m (dst (jSlot j) c) j 0
  have HD := debt_send c j
  rw [e1] at D1 A1 P1
  rw [e2] at D2 A2 P2 HD
  rw [e1, e2]
  iapply (Rounds.wp_send_pointsTo 𝒱₀ ER (meshRd m) (c : Thread nD τ) none (c' := (dst (jSlot j) c : Thread nD τ)) (src := s) (dst := d) (sS := .dma sS) (sem := .dma sR)
      (κ₁ := K (c, sK j)) (κ₂ := K (dst (jSlot j) c, rK j))
      (r₁ := 0) (r₂ := 0) (d₁ := 0) (d₂ := 0) (fs := fs) (fd := fd) (q := q)
      (by rw [D1]; exact Finset.mem_singleton_self _) (by rw [D2]; exact Finset.mem_singleton_self _)
      () () (amt j) hN A1 A2 (debt c (jPos j + 1)) HD (W := W)
      (by rw [P1]; exact hpay₁) (by rw [P2]; exact hpay₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc Hat]
  · isplitl [Hc] <;> iassumption
  iexists W; iexact HO

/-- Waiting for transfer `j` to have left: the source back and the semaphore at zero. -/
theorem wp_waitS (c : Dev nD) (j : Fin 11) (n : ℕ) {sS : DmaSem sig} (hS : csem (sK j) = .dma sS)
    {sp' sp : Space} {s' s : Shape} {e' e : EltTy} {κ' : Kind}
    {srcw : Memref sig .tc sp' s' e'} {dstw : Memref sig κ' sp s e} {hsrc : srcw.view.WordExact} {hdst : dstw.view.WordExact}
    (hN : dstw.view.dmaCredit = amt j) (hlv : ((debts 0).drop n).all fun p => decide (0 < lvK p.2.castSucc))
    {α : Type} {Q : α → sProp 𝕄} {k : PUnit → Prog (TpuEff nD τ sig (Elt F) Λ₀ .tc) α} :
    iprop(Recs m K ∗ Ow c n ∗ Sent c j)
      ⊢ iprop((iprop(Ow c n ∗ sendPay m c j ∗ semVal (kcell c (sK j)) 0) -∗ WP c (k ⟨⟩) Q)
          -∗ WP c (.op (.waitDma2 sS srcw dstw hsrc hdst) k) Q) := by
  have e1 : kcell c (sK j) = ((c : Thread nD τ), .dma sS) := by unfold kcell; rw [hS]
  unfold Ow Sent
  iintro ⟨#HR, ⟨%W, HO⟩, Hc, Hat⟩ Hk
  ihave #HI1 := (inv_at m K c (sK j)) $$ HR
  ihave #Hlev := (lev_at m K) $$ HR
  have E1 := expect_send m c j
  have R1 := rest_send m c j
  have M1 := mayWait (F := F) c (.dma sS) ((debts c).drop n) (by
    rw [← hS, kOf_csem]
    rw [lv_send]; exact drop_lv c n 0 hlv)
  rw [e1] at E1 R1 ⊢
  iapply (Rounds.wp_wait_rest_token 𝒱₀ ER (meshRd m) (c : Thread nD τ) none (κ := K (c, sK j))
      (wpE_waitDma2_eq 𝒱₀ (c : Thread nD τ) none Set.univ) (Set.mem_univ _) () (O := debt c n) (W := W) (R := 0) (m := 0) (T := ∅)
      (by rw [Nat.zero_add, E1]; exact hN)) $$ [Hc HO Hat]
  · isplitr; · iexact HI1
    isplitl [Hc]; · rw [hN]; iexact Hc
    isplitl [HO]; · iexact HO
    isplitr; · iapply M1; iexact Hlev
    iexact Hat
  iintro ⟨HO, Hat, -, Hpay⟩
  ihave Hp := (Entails.of_eq R1) $$ Hpay
  imod (Rounds.cell_close ER (meshRd m) (Set.mem_univ (K (c, sK j))) (fun h => h) (R := 0 + 1) (duties_later m _)) $$ [Hat] with Hz
  · isplitr; · iexact HI1
    iexact Hat
  iapply Hk
  isplitl [HO]; · iexists _; iexact HO
  isplitl [Hp]; · iexact Hp
  iexact Hz

/-- Waiting for transfer `j` to have landed here: the slot as sent and the semaphore at zero. -/
theorem wp_waitR (c : Dev nD) (j : Fin 11) (n : ℕ) {sR : DmaSem sig} (hS : csem (rK j) = .dma sR)
    {sp' sp : Space} {s' s : Shape} {e' e : EltTy} {κ' : Kind}
    {srcw : Memref sig .tc sp' s' e'} {dstw : Memref sig κ' sp s e} {hsrc : srcw.view.WordExact} {hdst : dstw.view.WordExact}
    (hN : dstw.view.dmaCredit = amt j) (hlv : ((debts 0).drop n).all fun p => decide (lvK (rK j).castSucc < lvK p.2.castSucc))
    {α : Type} {Q : α → sProp 𝕄} {k : PUnit → Prog (TpuEff nD τ sig (Elt F) Λ₀ .tc) α} :
    iprop(Recs m K ∗ Ow c n ∗ Exp c j)
      ⊢ iprop((iprop(Ow c n ∗ recvPay m c j ∗ semVal (kcell c (rK j)) 0) -∗ WP c (k ⟨⟩) Q)
          -∗ WP c (.op (.waitDma2 sR srcw dstw hsrc hdst) k) Q) := by
  have e1 : kcell c (rK j) = ((c : Thread nD τ), .dma sR) := by unfold kcell; rw [hS]
  unfold Ow Exp
  iintro ⟨#HR, ⟨%W, HO⟩, Hc, Hat⟩ Hk
  ihave #HI1 := (inv_at m K c (rK j)) $$ HR
  ihave #Hlev := (lev_at m K) $$ HR
  have E1 := expect_recv m c j
  have R1 := rest_recv m c j
  have M1 := mayWait (F := F) c (.dma sR) ((debts c).drop n) (by
    rw [← hS, kOf_csem]; exact drop_lv c n _ hlv)
  rw [e1] at E1 R1 ⊢
  iapply (Rounds.wp_wait_rest_token 𝒱₀ ER (meshRd m) (c : Thread nD τ) none (κ := K (c, rK j))
      (wpE_waitDma2_eq 𝒱₀ (c : Thread nD τ) none Set.univ) (Set.mem_univ _) () (O := debt c n) (W := W) (R := 0) (m := 0) (T := ∅)
      (by rw [Nat.zero_add, E1]; exact hN)) $$ [Hc HO Hat]
  · isplitr; · iexact HI1
    isplitl [Hc]; · rw [hN]; iexact Hc
    isplitl [HO]; · iexact HO
    isplitr; · iapply M1; iexact Hlev
    iexact Hat
  iintro ⟨HO, Hat, -, Hpay⟩
  ihave Hp := (Entails.of_eq R1) $$ Hpay
  imod (Rounds.cell_close ER (meshRd m) (Set.mem_univ (K (c, rK j))) (fun h => h) (R := 0 + 1) (duties_later m _)) $$ [Hat] with Hz
  · isplitr; · iexact HI1
    iexact Hat
  iapply Hk
  isplitl [HO]; · iexists _; iexact HO
  isplitl [Hp]; · iexact Hp
  iexact Hz

/-! ## The barrier -/

/-- The slot whose writer the `i`-th signal goes to. -/
abbrev bSlot : Fin 3 → Fin 3 := ![1, 0, 2]

theorem debt_bar (c : Dev nD) (i : Fin 3) :
    debt c i.val = debt c (i.val + 1) + tallyAt (kcell (src (bSlot i) c) 0) () 1 := by
  have h : (debts c).drop i.val = (src (bSlot i) c, 0) :: (debts c).drop (i.val + 1) := by
    revert i; unfold debts; decide +revert
  unfold debt; rw [h]
  rfl

/-- The `i`-th signal hands the device it goes to the slot that device writes. -/
theorem wp_bar (c n : Dev nD) (i : Fin 3) (hn : n = src (bSlot i) c) {α : Type} {Q : α → sProp 𝕄}
    {k : PUnit → Prog (TpuEff nD τ sig (Elt F) Λ₀ .tc) α} :
    iprop(Recs m K ∗ Ow c i.val ∗ dutyTok ER (kcell (src (bSlot i) c) 0) 0 (bSlot i) ∗ (∃ f, rP (F := F) c (slotBox (bSlot i)) f)
        ∗ ∃ f, qP (F := F) c (qBox (bSlot i)) f)
      ⊢ iprop((Ow c (i.val + 1) -∗ WP c (k ⟨⟩) Q)
          -∗ WP c (.op (.semSignal (Dev.tc n : Thread nD τ) barS (1#32 : BitVec 32).toInt) k) Q) := by
  subst hn
  unfold Ow
  have e0 : kcell (src (bSlot i) c) 0 = ((src (bSlot i) c : Thread nD τ), SemLoc.reg barS) := rfl
  have P0 := payload_bar m (src (bSlot i) c) (bSlot i)
  iintro ⟨#HR, ⟨%W, HO⟩, Ht, Hr, Hq⟩ Hk
  ihave #HI := (inv_at m K (src (bSlot i) c) 0) $$ HR
  ihave #Hr0 := (reached_at m K (src (bSlot i) c) 0) $$ HR
  rw [e0] at P0 ⊢
  iapply (Rounds.wp_signal 𝒱₀ ER (meshRd m) (c : Thread nD τ) none (dst := (src (bSlot i) c : Thread nD τ)) (κ := K (src (bSlot i) c, 0))
      (d := bSlot i) (by rw [show ((src (bSlot i) c : Thread nD τ), SemLoc.reg barS) = kcell (src (bSlot i) c) 0 from rfl, duties_bar]; exact Finset.mem_univ _)
      ((amount_bar m (src (bSlot i) c) (bSlot i)).trans (by decide)) () (debt c (i.val + 1)) (debt_bar c i)) $$ [HO Ht Hr Hq]
  · isplitr; · iexact HI
    isplitl [HO]; · iexact HO
    isplitl [Ht]; · iexact Ht
    isplitl [Hr Hq]
    · iapply (Entails.of_eq P0.symm)
      unfold barPay; rw [dst_src]
      isplitl [Hr] <;> iassumption
    · iexact Hr0
  iintro HO
  iapply Hk; iexists _; iexact HO

/-- Waiting at the barrier: the slots this device writes, on the other three. -/
theorem wp_barWait (c : Dev nD) {α : Type} {Q : α → sProp 𝕄} {k : PUnit → Prog (TpuEff nD τ sig (Elt F) Λ₀ .tc) α} :
    iprop(Recs m K ∗ Ow c 3 ∗ cred (tallyAt (kcell c 0) () 3) ∗ atPos ER (kcell c 0) 0 ∅ 0)
      ⊢ iprop((iprop(Ow c 3 ∗ semVal (kcell c 0) 0 ∗ barPay (F := F) c 0 ∗ barPay (F := F) c 1 ∗ barPay (F := F) c 2) -∗ WP c (k ⟨⟩) Q)
          -∗ WP c (.op (.semWait barS (3#32 : BitVec 32).toInt) k) Q) := by
  unfold Ow
  iintro ⟨#HR, ⟨%W, HO⟩, Hc, Hat⟩ Hk
  ihave #HI := (inv_at m K c 0) $$ HR
  ihave #Hlev := (lev_at m K) $$ HR
  have R0 := rest_bar m c
  rw [show kcell c 0 = ((c : Thread nD τ), SemLoc.reg barS) from rfl] at R0 ⊢
  have M1 := mayWait (F := F) c (.reg barS) ((debts c).drop 3) (drop_lv c 3 1 (by decide))
  iapply (Rounds.wp_wait_rest_token 𝒱₀ ER (meshRd m) (c : Thread nD τ) none (κ := K (c, 0))
      (wpE_semWait_eq 𝒱₀ (c : Thread nD τ) none Set.univ) (Set.mem_univ _) () (O := debt c 3) (W := W) (R := 0) (m := 0) (T := ∅)
      ((by decide : 0 + (3#32 : BitVec 32).toInt.toNat = 3).trans (expect_bar m c).symm)) $$ [Hc HO Hat]
  · isplitr; · iexact HI
    isplitl [Hc]; · iexact Hc
    isplitl [HO]; · iexact HO
    isplitr; · iapply M1; iexact Hlev
    iexact Hat
  iintro ⟨HO, Hat, -, Hpay⟩
  ihave Hp := (Entails.of_eq R0) $$ Hpay
  icases Hp with ⟨H0, H1, H2⟩
  imod (Rounds.cell_close ER (meshRd m) (Set.mem_univ (K (c, 0))) (fun h => h) (R := 0 + 1) (duties_later m _)) $$ [Hat] with Hz
  · isplitr; · iexact HI
    iexact Hat
  iapply Hk
  isplitl [HO]; · iexists _; iexact HO
  isplitl [Hz]; · iexact Hz
  isplitl [H0]; · iexact H0
  isplitl [H1] <;> iassumption

end Cert.KernelIdeal.Mesh

end
-- ==== Proof.KernelIdeal.Moves.lean ====
/-
The row transfers: what lands, and the rule of issuing one.
-/
module

public import proofs.«01_k».proof.Proof.KernelIdeal.Rules
public import Idealize.ShloMosaic.Lib.ValueLayout

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-! ## The elements of a slice -/

theorem slice_set (b : Ref sig .tc) (off size : Fin b.ty.shape.rank → ℕ) (inb : ∀ a, off a + size a ≤ b.ty.shape.size a)
    (h : ∀ a, (Rect.unit (s := b.ty.shape) off size inb).stride a = 1) :
    ((Memref.whole b).slice (Rect.unit (s := b.ty.shape) off size inb) h).view.set = box off size :=
  (View.set_slice_whole b _).trans (unit_set off size inb)
theorem access_set (b : Ref sig .tc) (off size : Fin b.ty.shape.rank → ℕ) (inb : ∀ a, off a + size a ≤ b.ty.shape.size a) :
    ((Memref.whole b).access (Rect.unit (s := b.ty.shape) off size inb)).set = box off size :=
  (View.set_slice_whole b _).trans (unit_set off size inb)

theorem squeeze_set (b : Ref sig .tc) (off size : Fin b.ty.shape.rank → ℕ) (inb : ∀ a, off a + size a ≤ b.ty.shape.size a)
    (h : ∀ a, (Rect.unit (s := b.ty.shape) off size inb).stride a = 1) {s' : Shape} (hsq : (Rect.unit (s := b.ty.shape) off size inb).shape.Squeezes s') :
    (((Memref.whole b).slice (Rect.unit (s := b.ty.shape) off size inb) h).squeeze s' hsq).view.set = box off size :=
  (View.set_reshape _ _).trans (slice_set b off size inb h)

/-! ## The row transfers -/

/-- What lands of transfer `j` is the receiver's slot as it is to be. -/
theorem land_x (c : Dev nD) (j : Fin 11) {H W : ℕ} (hH : H = jH j) (hW : W = jW j) {inbS inbD hs hd hsq}
    (hsl : (jSlot j).val < 3)
    (fd : Buf (Elt F) (rM.view.loc ((dst (jSlot j) c : Dev nD) : Thread nD τ))) (hrot : (dst (jSlot j) c).val = (c.val + jRot j) % 4) :
    ∀ i ∈ rBox j,
      ((((rM.slice (Rect.unit (s := S3x1024x1024) ![(jSlot j).val, jRow j, jCol j] (⟨3, ![1, H, W]⟩ : Shape).size inbD) hd).squeeze ⟨2, ![H, W]⟩ hsq).view.write
        (Elt F) fd ((xM.slice (Rect.unit (s := S4096x1024) ![row c (jRot j) + jRow j, jCol j] (⟨2, ![H, W]⟩ : Shape).size inbS) hs).view.read (Elt F) (xF m c)) Finset.univ)
        : FVec F S3x1024x1024 .bf16) i = rF m (dst (jSlot j) c) i := by
  subst hH hW
  intro i hi
  have hi' : i ∈ ((rM.slice (Rect.unit (s := S3x1024x1024) ![(jSlot j).val, jRow j, jCol j] (⟨3, ![1, jH j, jW j]⟩ : Shape).size inbD) hd).squeeze ⟨2, ![jH j, jW j]⟩ hsq).view.set := by
    rw [squeeze_set]; exact hi
  obtain ⟨y, -, rfl⟩ := Finset.mem_map.mp hi'
  rw [View.write_emb_of_mem _ _ (Finset.mem_univ _)]
  obtain ⟨y0, y1, rfl⟩ : ∃ a b, y = ix2 a b := ⟨_, _, eq_ix2 y⟩
  have e : ((rM.slice (Rect.unit (s := S3x1024x1024) ![(jSlot j).val, jRow j, jCol j] (⟨3, ![1, jH j, jW j]⟩ : Shape).size inbD) hd).squeeze ⟨2, ![jH j, jW j]⟩ hsq).view.emb (ix2 y0 y1)
      = (Rect.unit (s := S3x1024x1024) ![(jSlot j).val, jRow j, jCol j] (⟨3, ![1, jH j, jW j]⟩ : Shape).size inbD).emb (ix3 (⟨0, Nat.one_pos⟩ : Fin 1) y0 y1) := by
    show (Rect.unit (s := S3x1024x1024) ![(jSlot j).val, jRow j, jCol j] (⟨3, ![1, jH j, jW j]⟩ : Shape).size inbD).emb (Shape.reshapeEquiv _ (ix2 y0 y1)) = _
    rw [reshapeEquiv_ix2_1ab]
  rw [e]
  unfold rF
  have e0 : ((Rect.unit (s := S3x1024x1024) ![(jSlot j).val, jRow j, jCol j] (⟨3, ![1, jH j, jW j]⟩ : Shape).size inbD).emb (ix3 (⟨0, Nat.one_pos⟩ : Fin 1) y0 y1) 0 : Fin 3) = jSlot j :=
    Fin.ext (show (jSlot j).val + 1 * 0 = _ by omega)
  rw [e0, src_dst]
  show xF m c _ = xF m c _
  congr 1
  funext a
  refine Fin.ext ?_
  match a with
  | ⟨0, _⟩ =>
    show row c (jRot j) + jRow j + 1 * y0.val = row (dst (jSlot j) c) 0 + (jRow j + 1 * y0.val)
    unfold row
    rw [hrot, Nat.add_zero, Nat.mod_mod]; omega
  | ⟨1, _⟩ => rfl

theorem dst_val (j : Fin 11) (hj : j.val < 8) (c : Dev nD) : (dst (jSlot j) c).val = (c.val + jRot j) % 4 := by
  revert c; revert hj; revert j; decide

/-- Issuing row transfer `j`. -/
theorem wp_sendX (c n : Dev nD) (j : Fin 11) (hj : j.val < 8) (hn : n = dst (jSlot j) c) {H W : ℕ} (hH : H = jH j) (hW : W = jW j)
    {offS : Fin 2 → ℕ} {offD : Fin 3 → ℕ} (hoS : offS = ![row c (jRot j) + jRow j, jCol j]) (hoD : offD = ![(jSlot j).val, jRow j, jCol j])
    {inbS : ∀ a, offS a + (⟨2, ![H, W]⟩ : Shape).size a ≤ S4096x1024.size a} {inbD : ∀ a, offD a + (⟨3, ![1, H, W]⟩ : Shape).size a ≤ S3x1024x1024.size a}
    {hs : ∀ a, (Rect.unit (s := S4096x1024) offS (⟨2, ![H, W]⟩ : Shape).size inbS).stride a = 1}
    {hd : ∀ a, (Rect.unit (s := S3x1024x1024) offD (⟨3, ![1, H, W]⟩ : Shape).size inbD).stride a = 1}
    {hsq : (⟨3, ![1, H, W]⟩ : Shape).Squeezes ⟨2, ![H, W]⟩}
    {sS sR : DmaSem sig} (hS : csem (sK j) = .dma sS) (hR : csem (rK j) = .dma sR)
    (hN : ((rM.slice (Rect.unit (s := S3x1024x1024) offD (⟨3, ![1, H, W]⟩ : Shape).size inbD) hd).squeeze ⟨2, ![H, W]⟩ hsq).view.amount (.dma sR) = amt j)
    {hsc : ((rM.slice (Rect.unit (s := S3x1024x1024) offD (⟨3, ![1, H, W]⟩ : Shape).size inbD) hd).squeeze ⟨2, ![H, W]⟩ hsq).view.ref.isScScratch = false}
    {hsrc : (xM.slice (Rect.unit (s := S4096x1024) offS (⟨2, ![H, W]⟩ : Shape).size inbS) hs).view.WordExact}
    {hdst : ((rM.slice (Rect.unit (s := S3x1024x1024) offD (⟨3, ![1, H, W]⟩ : Shape).size inbD) hd).squeeze ⟨2, ![H, W]⟩ hsq).view.WordExact}
    {hsem : DmaTarget.Typed .vmem (.dma sR) (.remote (Dev.tc n : Thread nD τ)
      ((rM.slice (Rect.unit (s := S3x1024x1024) offD (⟨3, ![1, H, W]⟩ : Shape).size inbD) hd).squeeze ⟨2, ![H, W]⟩ hsq) (.dma sS) hsc)}
    {α : Type} {Q : α → sProp 𝕄} {k : PUnit → Prog (TpuEff nD τ sig (Elt F) Λ₀ .tc) α} :
    iprop(Recs m K ∗ xP c (xBox c j) (xF m c) ∗ (∃ f, rP (F := F) (dst (jSlot j) c) (rBox j) f) ∗ Ow c (jPos j) ∗ Tok c j)
      ⊢ iprop((iprop(Sent c j ∗ Ow c (jPos j + 1)) -∗ WP c (k ⟨⟩) Q)
          -∗ WP c (.op (.enqueueDma (xM.slice (Rect.unit (s := S4096x1024) offS (⟨2, ![H, W]⟩ : Shape).size inbS) hs)
            (.remote (Dev.tc n : Thread nD τ) ((rM.slice (Rect.unit (s := S3x1024x1024) offD (⟨3, ![1, H, W]⟩ : Shape).size inbD) hd).squeeze ⟨2, ![H, W]⟩ hsq) (.dma sS) hsc)
            (.dma sR) hsrc hdst hsem) k) Q) := by
  subst hn hoS hoD
  have E1 : (xM.slice (Rect.unit (s := S4096x1024) ![row c (jRot j) + jRow j, jCol j] (⟨2, ![H, W]⟩ : Shape).size inbS) hs).view.set = xBox c j := by
    subst hH hW; exact slice_set cc0_scratch0 _ _ _ _
  have E2 : ((rM.slice (Rect.unit (s := S3x1024x1024) ![(jSlot j).val, jRow j, jCol j] (⟨3, ![1, H, W]⟩ : Shape).size inbD) hd).squeeze ⟨2, ![H, W]⟩ hsq).view.set = rBox j := by
    subst hH hW; exact squeeze_set cc0_scratch2 _ _ _ _ _
  iintro ⟨#HR, Hx, ⟨%fd, Hr⟩, HO, Ht⟩
  iapply (wp_send' m K c _ j rfl hS hR hN (q := fullShare) (fs := xF m c) (fd := fd)
    (by rw [E1]; unfold sendPay; rw [if_pos hj])
    (by
      rw [E2]; unfold recvPay; rw [if_pos hj]
      exact Entails.of_eq (pointsTo_congr (land_x m c j hH hW (jSlot j).isLt fd (dst_val j hj c)))))
  isplitr; · iexact HR
  isplitl [Hx]; · rw [E1]; iexact Hx
  isplitl [Hr]; · rw [E2]; iexact Hr
  isplitl [HO] <;> iassumption

end Cert.KernelIdeal.Mesh

end
-- ==== Proof.KernelIdeal.Local.lean ====
/-
Copies of the arguments into the staging buffer, the loads of what was copied, the stores of it rounded.
-/
module

public import proofs.«01_k».proof.Proof.KernelIdeal.Moves
public import Idealize.ShloMosaic.Lib.Pipeline.Value

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-- The copies' semaphores, the shares they take of the arguments, the slots they fill. -/
abbrev cpS : Fin 2 → DmaSem sig := ![29, 30]
abbrev cpQ : Fin 2 → PosShare TreeShare := ![fullShare.left, fullShare.right]
abbrev slab (s : Fin 2) : Finset S2x1024x2048.Idx := bx3 s.val 1 0 1024 0 2048
theorem slab_le (s : Fin 2) (w : ℕ) (hw : w ≤ 2048) : bx3 s.val 1 0 1024 0 w ⊆ slab s := by
  intro i hi
  unfold slab
  rw [mem_bx3] at hi ⊢
  exact ⟨hi.1, hi.2.1, hi.2.2.1, lt_of_lt_of_le hi.2.2.2 (by omega)⟩

/-- Their credits. -/
abbrev cSA : ℕ := sig.dmaCredit .tc (Kind.tc.table .vmem) cc0_scratch3.idx S1024x512 .f32
abbrev cSB : ℕ := sig.dmaCredit .tc (Kind.tc.table .vmem) cc0_scratch3.idx S1024x2048 .f32

theorem lv_cp : ∀ s : Fin 2, lvK (kOf (.dma (cpS s))) = 0 := by decide

/-! ## Copies of the first factor's block -/

/-- Slot `s` of the staging buffer holds the rows from `r` and the columns from `k` of device `c`'s block of the first factor. -/
def HoldsA (c : Dev nD) (s : Fin 2) (r k : ℕ) (f : FVec F S2x1024x2048 .f32) : Prop :=
  ∀ (i : S2x1024x2048.Idx) (j : S4096x1024.Idx), (i 0).val = s.val → (i 2).val < 512 → (j 0).val = r + (i 1).val → (j 1).val = k + (i 2).val → f i = aF m c j
def StA (c : Dev nD) (s : Fin 2) (r k : ℕ) : sProp 𝕄 := iprop(∃ f, ⌜HoldsA m c s r k f⌝ ∗ gP c (slab s) f)
/-- The copy into it under way. -/
def CpA (c : Dev nD) (s : Fin 2) (r k : ℕ) : sProp 𝕄 :=
  iprop(∃ I, Flight EC (c : Thread nD τ) (.dma (cpS s)) () cSA iprop(StA m c s r k ∗ aP m c (cpQ s) I) ∗ aP m c (cpQ s) (Finset.univ \ I))
/-- A value loaded from it. -/
def IsA (c : Dev nD) (r k : ℕ) (w : Vec F S1x1024x512 .f32) : Prop :=
  ∀ (y1 : Fin 1024) (y2 : Fin 512) (j : S4096x1024.Idx), (j 0).val = r + y1.val → (j 1).val = k + y2.val → w (ix3 (0 : Fin 1) y1 y2) = aF m c j

theorem staged_A (c : Dev nD) (s : Fin 2) (r k : ℕ) {inbS inbD hs hd hsq} (fd : FVec F S2x1024x2048 .f32) :
    HoldsA m c s r k
      ((((gM.slice (Rect.unit (s := S2x1024x2048) ![s.val, 0, 0] S1x1024x512.size inbD) hd).squeeze S1024x512 hsq).view.write (Elt F) fd
        ((aM.slice (Rect.unit (s := S4096x1024) ![r, k] S1024x512.size inbS) hs).view.read (Elt F) (aF m c)) Finset.univ)) := by
  intro i j h0 h2 hj0 hj1
  obtain ⟨i0, i1, i2, rfl⟩ : ∃ a b c, i = ix3 a b c := ⟨_, _, _, eq_ix3 i⟩
  have h0 : i0.val = s.val := h0
  have h2 : i2.val < 512 := h2
  have hj0 : (j 0).val = r + i1.val := hj0
  have hj1 : (j 1).val = k + i2.val := hj1
  have e : ((gM.slice (Rect.unit (s := S2x1024x2048) ![s.val, 0, 0] S1x1024x512.size inbD) hd).squeeze S1024x512 hsq).view.emb (ix2 i1 (⟨i2.val, h2⟩ : Fin 512)) = ix3 i0 i1 i2 := by
    show (Rect.unit (s := S2x1024x2048) ![s.val, 0, 0] (⟨3, ![1, 1024, 512]⟩ : Shape).size inbD).emb (Shape.reshapeEquiv (s' := ⟨2, ![1024, 512]⟩) (s := ⟨3, ![1, 1024, 512]⟩) _ (ix2 i1 (⟨i2.val, h2⟩ : Fin 512))) = _
    rw [reshapeEquiv_ix2_1ab]
    funext a
    refine Fin.ext ?_
    match a with
    | ⟨0, _⟩ => show s.val + 1 * 0 = i0.val; omega
    | ⟨1, _⟩ => show 0 + 1 * i1.val = i1.val; omega
    | ⟨2, _⟩ => show 0 + 1 * i2.val = i2.val; omega
  conv_lhs => rw [← e]
  rw [View.write_emb_of_mem _ _ (Finset.mem_univ _)]
  show aF m c _ = aF m c _
  congr 1
  funext a
  refine Fin.ext ?_
  match a with
  | ⟨0, _⟩ => show r + 1 * i1.val = (j 0).val; omega
  | ⟨1, _⟩ => show k + 1 * i2.val = (j 1).val; omega

/-- Issuing the copy. -/
theorem wp_cpA (c : Dev nD) (s : Fin 2) (r k : ℕ) {sS : DmaSem sig} (hS : cpS s = sS) {offS : Fin 2 → ℕ} {offD : Fin 3 → ℕ}
    (hoS : offS = ![r, k]) (hoD : offD = ![s.val, 0, 0])
    {inbS : ∀ a, offS a + S1024x512.size a ≤ S4096x1024.size a} {inbD : ∀ a, offD a + S1x1024x512.size a ≤ S2x1024x2048.size a}
    {hs : ∀ a, (Rect.unit (s := S4096x1024) offS S1024x512.size inbS).stride a = 1}
    {hd : ∀ a, (Rect.unit (s := S2x1024x2048) offD S1x1024x512.size inbD).stride a = 1}
    {hsq : S1x1024x512.Squeezes S1024x512}
    {hsrc : (aM.slice (Rect.unit (s := S4096x1024) offS S1024x512.size inbS) hs).view.WordExact}
    {hdst : ((gM.slice (Rect.unit (s := S2x1024x2048) offD S1x1024x512.size inbD) hd).squeeze S1024x512 hsq).view.WordExact}
    {hsem : DmaTarget.Typed (nD := nD) .hbm (.dma sS) (DmaTarget.here (nD := nD) (τ := τ) (p := .tc) ((gM.slice (Rect.unit (s := S2x1024x2048) offD S1x1024x512.size inbD) hd).squeeze S1024x512 hsq))}
    {α : Type} {Q : α → sProp 𝕄} {p : PUnit → Prog (TpuEff nD τ sig (Elt F) Λ₀ .tc) α} :
    iprop(aP m c (cpQ s) Finset.univ ∗ (∃ f, gP (F := F) c (slab s) f) ∗ semVal ((c : Thread nD τ), .dma (cpS s)) 0)
      ⊢ iprop((CpA m c s r k -∗ WP c (p ⟨⟩) Q)
          -∗ WP c (.op (.enqueueDma (aM.slice (Rect.unit (s := S4096x1024) offS S1024x512.size inbS) hs)
            (.here ((gM.slice (Rect.unit (s := S2x1024x2048) offD S1x1024x512.size inbD) hd).squeeze S1024x512 hsq)) (.dma sS) hsrc hdst hsem) p) Q) := by
  subst hS hoS hoD
  have E1 : (aM.slice (Rect.unit (s := S4096x1024) ![r, k] S1024x512.size inbS) hs).view.set = bx2 r 1024 k 512 := slice_set main_arg0 _ _ _ _
  have E2 : ((gM.slice (Rect.unit (s := S2x1024x2048) ![s.val, 0, 0] S1x1024x512.size inbD) hd).squeeze S1024x512 hsq).view.set ⊆ slab s :=
    Eq.trans_subset (squeeze_set cc0_scratch3 _ _ _ _ _) (slab_le s 512 (by decide))
  iintro ⟨Ha, ⟨%fd, Hg⟩, Hv⟩ Hk
  ihave Ha' := (pointsTo_split_subset (Finset.subset_univ (bx2 r 1024 k 512))).1 $$ Ha
  icases Ha' with ⟨Ha, Hrest⟩
  iapply (Transfers.wp_dmaLocal EC 𝒱₀ (c : Thread nD τ) none (q := cpQ s) (fs := aF m c) (dst := ((gM.slice (Rect.unit (s := S2x1024x2048) ![s.val, 0, 0] S1x1024x512.size inbD) hd).squeeze S1024x512 hsq)) (Sd := slab s) (fd := fd) () cSA rfl (by decide +kernel) E2) $$ [Ha Hg Hv]
  · isplitl [Ha]; · rw [E1]; iexact Ha
    isplitl [Hg] <;> iassumption
  iintro Hf
  iapply Hk
  unfold CpA
  iexists bx2 r 1024 k 512
  isplitl [Hf]
  · iapply (Transfers.Flight_mono EC (c : Thread nD τ) (D' := iprop(StA m c s r k ∗ aP m c (cpQ s) (bx2 r 1024 k 512))) ?_) $$ Hf
    rw [E1]
    refine sep_mono_left ?_
    unfold StA
    iintro Hg
    iexists _
    isplitr; swap
    · iexact Hg
    ipureintro; exact staged_A m c s r k fd
  iexact Hrest

/-- Waiting for it. -/
theorem wp_waitA (c : Dev nD) (s : Fin 2) (r k : ℕ) (n : ℕ) {sS : DmaSem sig} (hS : cpS s = sS)
    {sp' sp : Space} {s' sh : Shape} {e' e : EltTy} {κ' : Kind}
    {srcw : Memref sig .tc sp' s' e'} {dstw : Memref sig κ' sp sh e} {hsrc : srcw.view.WordExact} {hdst : dstw.view.WordExact}
    (hN : dstw.view.dmaCredit = cSA) (hlv : ((debts 0).drop n).all fun p => decide (0 < lvK p.2.castSucc))
    {α : Type} {Q : α → sProp 𝕄} {p : PUnit → Prog (TpuEff nD τ sig (Elt F) Λ₀ .tc) α} :
    iprop(Recs m K ∗ Ow c n ∗ CpA m c s r k)
      ⊢ iprop((iprop(Ow c n ∗ StA m c s r k ∗ aP m c (cpQ s) Finset.univ ∗ semVal ((c : Thread nD τ), .dma (cpS s)) 0) -∗ WP c (p ⟨⟩) Q)
          -∗ WP c (.op (.waitDma2 sS srcw dstw hsrc hdst) p) Q) := by
  subst hS
  have M1 := mayWait (F := F) c (.dma (cpS s)) ((debts c).drop n) (by
    rw [lv_cp]; exact drop_lv c n 0 hlv)
  unfold Ow CpA
  iintro ⟨#HR, ⟨%W, HO⟩, ⟨%I, Hf, Hrest⟩⟩ Hk
  ihave #Hlev := (lev_at m K) $$ HR
  iapply (Transfers.wp_waitLocalO EC 𝒱₀ (c : Thread nD τ) none () hN (O := debt c n) (W := W)) $$ [Hf HO]
  · isplitl [Hf]; · iexact Hf
    isplitl [HO]; · iexact HO
    iapply M1; iexact Hlev
  iintro ⟨⟨HS, Ha⟩, Hv, HO⟩
  iapply Hk
  isplitl [HO]; · iexists _; iexact HO
  isplitl [HS]; · iexact HS
  isplitl [Ha Hrest]
  · iapply (pointsTo_split_subset (Finset.subset_univ I)).2
    isplitl [Ha] <;> iassumption
  iexact Hv

/-- Loading what was copied; the slot stays held, at whatever it holds. -/
theorem wp_loadA (c : Dev nD) (s : Fin 2) (r k : ℕ) {off : Fin 3 → ℕ} (ho : off = ![s.val, 0, 0])
    {inb : ∀ a, off a + S1x1024x512.size a ≤ S2x1024x2048.size a} {hl : gM.view.LoadsAt (Rect.unit (s := S2x1024x2048) off S1x1024x512.size inb).toLoadRect}
    {α : Type} {Q : α → sProp 𝕄} {p : Vec F S1x1024x512 .f32 → Prog (TpuEff nD τ sig (Elt F) Λ₀ .tc) α} :
    StA m c s r k
      ⊢ iprop((∀ w : Vec F S1x1024x512 .f32, ⌜IsA m c r k w⌝ -∗ (∃ f, gP (F := F) c (slab s) f) -∗ WP c (p w) Q)
          -∗ WP c (.op (.load gM (Rect.unit (s := S2x1024x2048) off S1x1024x512.size inb).toLoadRect hl) p) Q) := by
  subst ho
  have E2 : (gM.access (Rect.unit (s := S2x1024x2048) ![s.val, 0, 0] S1x1024x512.size inb)).set ⊆ slab s :=
    Eq.trans_subset (access_set cc0_scratch3 _ _ _) (slab_le s 512 (by decide))
  unfold StA
  iintro ⟨%f, %hf, Hg⟩ Hk
  iapply (wp_load_rect 𝒱₀ (c : Thread nD τ) none Set.univ (m := gM) (r := Rect.unit (s := S2x1024x2048) ![s.val, 0, 0] S1x1024x512.size inb) E2) $$ Hg
  iintro Hg
  iapply Hk $$ %_ [] [Hg]
  · ipureintro
    intro y1 y2 j h0 h1
    refine hf _ j ?_ ?_ ?_ ?_
    · show s.val + 1 * 0 = s.val; omega
    · show 0 + 1 * y2.val < 512; have := y2.isLt; omega
    · show (j 0).val = r + (0 + 1 * y1.val); omega
    · show (j 1).val = k + (0 + 1 * y2.val); omega
  iexists f; iexact Hg

/-- What is stored of a loaded value: it, rounded. -/
abbrev rndA (w : Vec F S1x1024x512 .f32) : FVec F S1024x512 .bf16 :=
  shapeCast S1024x512 (truncf .bf16 (shapeCast S1024x512 w shapeCasts_S1x1024x512_S1024x512) bitsLt_bf16_f32) shapeCasts_S1024x512_S1024x512

theorem rndA_apply (w : Vec F S1x1024x512 .f32) (y1 : Fin 1024) (y2 : Fin 512) :
    rndA w (ix2 y1 y2) = FloatOps.truncf (F := F) .bf16 bitsLt_bf16_f32 (w (ix3 (0 : Fin 1) y1 y2)) := by
  unfold rndA
  rw [shapeCast_apply _ _ (ix2 y1 y2) (ix2 y1 y2) rfl]
  show FloatOps.truncf (F := F) .bf16 bitsLt_bf16_f32 (shapeCast S1024x512 w shapeCasts_S1x1024x512_S1024x512 (ix2 y1 y2)) = _
  exact congrArg _ (shapeCast_1ab_ab_apply (a := 1024) (b := 512) w shapeCasts_S1x1024x512_S1024x512 y1 y2)

/-- Storing it: the rows buffer's elements as they are to be. -/
theorem wp_storeA (c : Dev nD) (r k : ℕ) {off : Fin 2 → ℕ} (ho : off = ![r, k]) {w : Vec F S1x1024x512 .f32} (hw : IsA m c r k w)
    {inb : ∀ a, off a + S1024x512.size a ≤ S4096x1024.size a} {v : FVec F S1024x512 .bf16} (hv : v = rndA w)
    {hx : (xM.access (Rect.unit (s := S4096x1024) off S1024x512.size inb)).Stores Finset.univ}
    {hm : (Finset.univ : Finset S1024x512.Idx) = Finset.univ ∨ ∀ a, (Rect.unit (s := S4096x1024) off S1024x512.size inb).stride a = 1}
    {α : Type} {Q : α → sProp 𝕄} {p : PUnit → Prog (TpuEff nD τ sig (Elt F) Λ₀ .tc) α} :
    iprop(∃ f, xP (F := F) c (bx2 r 1024 k 512) f)
      ⊢ iprop((xP c (bx2 r 1024 k 512) (xF m c) -∗ WP c (p ⟨⟩) Q)
          -∗ WP c (.op (.store xM (Rect.unit (s := S4096x1024) off S1024x512.size inb) v Finset.univ hx hm) p) Q) := by
  subst ho hv
  have E1 : (xM.access (Rect.unit (s := S4096x1024) ![r, k] S1024x512.size inb)).set = bx2 r 1024 k 512 := access_set cc0_scratch0 _ _ _
  iintro ⟨%f, Hx⟩ Hk
  iapply (wp_store 𝒱₀ (c : Thread nD τ) none Set.univ (m := xM) (r := Rect.unit (s := S4096x1024) ![r, k] S1024x512.size inb) (Mk := Finset.univ)
    (w := rndA w) (S := bx2 r 1024 k 512) (by rw [View.setOn_univ, E1])) $$ Hx
  iintro Hx
  iapply Hk
  iapply (Entails.of_eq (pointsTo_congr ?_)) $$ Hx
  intro i hi
  rw [← E1] at hi
  obtain ⟨y, -, rfl⟩ := Finset.mem_map.mp hi
  rw [View.write_emb_of_mem _ _ (Finset.mem_univ _)]
  obtain ⟨y0, y1, rfl⟩ : ∃ a b, y = ix2 a b := ⟨_, _, eq_ix2 y⟩
  show rndA w (ix2 y0 y1) = xF m c ((Rect.unit (s := S4096x1024) ![r, k] S1024x512.size inb).emb (ix2 y0 y1))
  rw [rndA_apply, hw y0 y1 ((Rect.unit (s := S4096x1024) ![r, k] S1024x512.size inb).emb (ix2 y0 y1))
    (show r + 1 * y0.val = _ by omega) (show k + 1 * y1.val = _ by omega)]
  rfl

/-! ## Copies of the second factor -/

/-- Slot `s` of the staging buffer holds the rows from `r` and the columns from `k` of device `c`'s second factor. -/
def HoldsB (c : Dev nD) (s : Fin 2) (r k : ℕ) (f : FVec F S2x1024x2048 .f32) : Prop :=
  ∀ (i : S2x1024x2048.Idx) (j : S4096x2048.Idx), (i 0).val = s.val → (i 2).val < 2048 → (j 0).val = r + (i 1).val → (j 1).val = k + (i 2).val → f i = bF m c j
def StB (c : Dev nD) (s : Fin 2) (r k : ℕ) : sProp 𝕄 := iprop(∃ f, ⌜HoldsB m c s r k f⌝ ∗ gP c (slab s) f)
/-- The copy into it under way. -/
def CpB (c : Dev nD) (s : Fin 2) (r k : ℕ) : sProp 𝕄 :=
  iprop(∃ I, Flight EC (c : Thread nD τ) (.dma (cpS s)) () cSB iprop(StB m c s r k ∗ bP m c (cpQ s) I) ∗ bP m c (cpQ s) (Finset.univ \ I))
/-- A value loaded from it. -/
def IsB (c : Dev nD) (r k : ℕ) (w : Vec F S1x1024x2048 .f32) : Prop :=
  ∀ (y1 : Fin 1024) (y2 : Fin 2048) (j : S4096x2048.Idx), (j 0).val = r + y1.val → (j 1).val = k + y2.val → w (ix3 (0 : Fin 1) y1 y2) = bF m c j

theorem staged_B (c : Dev nD) (s : Fin 2) (r k : ℕ) {inbS inbD hs hd hsq} (fd : FVec F S2x1024x2048 .f32) :
    HoldsB m c s r k
      ((((gM.slice (Rect.unit (s := S2x1024x2048) ![s.val, 0, 0] S1x1024x2048.size inbD) hd).squeeze S1024x2048 hsq).view.write (Elt F) fd
        ((bM.slice (Rect.unit (s := S4096x2048) ![r, k] S1024x2048.size inbS) hs).view.read (Elt F) (bF m c)) Finset.univ)) := by
  intro i j h0 h2 hj0 hj1
  obtain ⟨i0, i1, i2, rfl⟩ : ∃ a b c, i = ix3 a b c := ⟨_, _, _, eq_ix3 i⟩
  have h0 : i0.val = s.val := h0
  have h2 : i2.val < 2048 := h2
  have hj0 : (j 0).val = r + i1.val := hj0
  have hj1 : (j 1).val = k + i2.val := hj1
  have e : ((gM.slice (Rect.unit (s := S2x1024x2048) ![s.val, 0, 0] S1x1024x2048.size inbD) hd).squeeze S1024x2048 hsq).view.emb (ix2 i1 (⟨i2.val, h2⟩ : Fin 2048)) = ix3 i0 i1 i2 := by
    show (Rect.unit (s := S2x1024x2048) ![s.val, 0, 0] (⟨3, ![1, 1024, 2048]⟩ : Shape).size inbD).emb (Shape.reshapeEquiv (s' := ⟨2, ![1024, 2048]⟩) (s := ⟨3, ![1, 1024, 2048]⟩) _ (ix2 i1 (⟨i2.val, h2⟩ : Fin 2048))) = _
    rw [reshapeEquiv_ix2_1ab]
    funext a
    refine Fin.ext ?_
    match a with
    | ⟨0, _⟩ => show s.val + 1 * 0 = i0.val; omega
    | ⟨1, _⟩ => show 0 + 1 * i1.val = i1.val; omega
    | ⟨2, _⟩ => show 0 + 1 * i2.val = i2.val; omega
  conv_lhs => rw [← e]
  rw [View.write_emb_of_mem _ _ (Finset.mem_univ _)]
  show bF m c _ = bF m c _
  congr 1
  funext a
  refine Fin.ext ?_
  match a with
  | ⟨0, _⟩ => show r + 1 * i1.val = (j 0).val; omega
  | ⟨1, _⟩ => show k + 1 * i2.val = (j 1).val; omega

/-- Issuing the copy. -/
theorem wp_cpB (c : Dev nD) (s : Fin 2) (r k : ℕ) {sS : DmaSem sig} (hS : cpS s = sS) {offS : Fin 2 → ℕ} {offD : Fin 3 → ℕ}
    (hoS : offS = ![r, k]) (hoD : offD = ![s.val, 0, 0])
    {inbS : ∀ a, offS a + S1024x2048.size a ≤ S4096x2048.size a} {inbD : ∀ a, offD a + S1x1024x2048.size a ≤ S2x1024x2048.size a}
    {hs : ∀ a, (Rect.unit (s := S4096x2048) offS S1024x2048.size inbS).stride a = 1}
    {hd : ∀ a, (Rect.unit (s := S2x1024x2048) offD S1x1024x2048.size inbD).stride a = 1}
    {hsq : S1x1024x2048.Squeezes S1024x2048}
    {hsrc : (bM.slice (Rect.unit (s := S4096x2048) offS S1024x2048.size inbS) hs).view.WordExact}
    {hdst : ((gM.slice (Rect.unit (s := S2x1024x2048) offD S1x1024x2048.size inbD) hd).squeeze S1024x2048 hsq).view.WordExact}
    {hsem : DmaTarget.Typed (nD := nD) .hbm (.dma sS) (DmaTarget.here (nD := nD) (τ := τ) (p := .tc) ((gM.slice (Rect.unit (s := S2x1024x2048) offD S1x1024x2048.size inbD) hd).squeeze S1024x2048 hsq))}
    {α : Type} {Q : α → sProp 𝕄} {p : PUnit → Prog (TpuEff nD τ sig (Elt F) Λ₀ .tc) α} :
    iprop(bP m c (cpQ s) Finset.univ ∗ (∃ f, gP (F := F) c (slab s) f) ∗ semVal ((c : Thread nD τ), .dma (cpS s)) 0)
      ⊢ iprop((CpB m c s r k -∗ WP c (p ⟨⟩) Q)
          -∗ WP c (.op (.enqueueDma (bM.slice (Rect.unit (s := S4096x2048) offS S1024x2048.size inbS) hs)
            (.here ((gM.slice (Rect.unit (s := S2x1024x2048) offD S1x1024x2048.size inbD) hd).squeeze S1024x2048 hsq)) (.dma sS) hsrc hdst hsem) p) Q) := by
  subst hS hoS hoD
  have E1 : (bM.slice (Rect.unit (s := S4096x2048) ![r, k] S1024x2048.size inbS) hs).view.set = bx2 r 1024 k 2048 := slice_set main_arg1 _ _ _ _
  have E2 : ((gM.slice (Rect.unit (s := S2x1024x2048) ![s.val, 0, 0] S1x1024x2048.size inbD) hd).squeeze S1024x2048 hsq).view.set ⊆ slab s :=
    Eq.trans_subset (squeeze_set cc0_scratch3 _ _ _ _ _) (slab_le s 2048 (by decide))
  iintro ⟨Ha, ⟨%fd, Hg⟩, Hv⟩ Hk
  ihave Ha' := (pointsTo_split_subset (Finset.subset_univ (bx2 r 1024 k 2048))).1 $$ Ha
  icases Ha' with ⟨Ha, Hrest⟩
  iapply (Transfers.wp_dmaLocal EC 𝒱₀ (c : Thread nD τ) none (q := cpQ s) (fs := bF m c) (dst := ((gM.slice (Rect.unit (s := S2x1024x2048) ![s.val, 0, 0] S1x1024x2048.size inbD) hd).squeeze S1024x2048 hsq)) (Sd := slab s) (fd := fd) () cSB rfl (by decide +kernel) E2) $$ [Ha Hg Hv]
  · isplitl [Ha]; · rw [E1]; iexact Ha
    isplitl [Hg] <;> iassumption
  iintro Hf
  iapply Hk
  unfold CpB
  iexists bx2 r 1024 k 2048
  isplitl [Hf]
  · iapply (Transfers.Flight_mono EC (c : Thread nD τ) (D' := iprop(StB m c s r k ∗ bP m c (cpQ s) (bx2 r 1024 k 2048))) ?_) $$ Hf
    rw [E1]
    refine sep_mono_left ?_
    unfold StB
    iintro Hg
    iexists _
    isplitr; swap
    · iexact Hg
    ipureintro; exact staged_B m c s r k fd
  iexact Hrest

/-- Waiting for it. -/
theorem wp_waitB (c : Dev nD) (s : Fin 2) (r k : ℕ) (n : ℕ) {sS : DmaSem sig} (hS : cpS s = sS)
    {sp' sp : Space} {s' sh : Shape} {e' e : EltTy} {κ' : Kind}
    {srcw : Memref sig .tc sp' s' e'} {dstw : Memref sig κ' sp sh e} {hsrc : srcw.view.WordExact} {hdst : dstw.view.WordExact}
    (hN : dstw.view.dmaCredit = cSB) (hlv : ((debts 0).drop n).all fun p => decide (0 < lvK p.2.castSucc))
    {α : Type} {Q : α → sProp 𝕄} {p : PUnit → Prog (TpuEff nD τ sig (Elt F) Λ₀ .tc) α} :
    iprop(Recs m K ∗ Ow c n ∗ CpB m c s r k)
      ⊢ iprop((iprop(Ow c n ∗ StB m c s r k ∗ bP m c (cpQ s) Finset.univ ∗ semVal ((c : Thread nD τ), .dma (cpS s)) 0) -∗ WP c (p ⟨⟩) Q)
          -∗ WP c (.op (.waitDma2 sS srcw dstw hsrc hdst) p) Q) := by
  subst hS
  have M1 := mayWait (F := F) c (.dma (cpS s)) ((debts c).drop n) (by
    rw [lv_cp]; exact drop_lv c n 0 hlv)
  unfold Ow CpB
  iintro ⟨#HR, ⟨%W, HO⟩, ⟨%I, Hf, Hrest⟩⟩ Hk
  ihave #Hlev := (lev_at m K) $$ HR
  iapply (Transfers.wp_waitLocalO EC 𝒱₀ (c : Thread nD τ) none () hN (O := debt c n) (W := W)) $$ [Hf HO]
  · isplitl [Hf]; · iexact Hf
    isplitl [HO]; · iexact HO
    iapply M1; iexact Hlev
  iintro ⟨⟨HS, Ha⟩, Hv, HO⟩
  iapply Hk
  isplitl [HO]; · iexists _; iexact HO
  isplitl [HS]; · iexact HS
  isplitl [Ha Hrest]
  · iapply (pointsTo_split_subset (Finset.subset_univ I)).2
    isplitl [Ha] <;> iassumption
  iexact Hv

/-- Loading what was copied; the slot stays held, at whatever it holds. -/
theorem wp_loadB (c : Dev nD) (s : Fin 2) (r k : ℕ) {off : Fin 3 → ℕ} (ho : off = ![s.val, 0, 0])
    {inb : ∀ a, off a + S1x1024x2048.size a ≤ S2x1024x2048.size a} {hl : gM.view.LoadsAt (Rect.unit (s := S2x1024x2048) off S1x1024x2048.size inb).toLoadRect}
    {α : Type} {Q : α → sProp 𝕄} {p : Vec F S1x1024x2048 .f32 → Prog (TpuEff nD τ sig (Elt F) Λ₀ .tc) α} :
    StB m c s r k
      ⊢ iprop((∀ w : Vec F S1x1024x2048 .f32, ⌜IsB m c r k w⌝ -∗ (∃ f, gP (F := F) c (slab s) f) -∗ WP c (p w) Q)
          -∗ WP c (.op (.load gM (Rect.unit (s := S2x1024x2048) off S1x1024x2048.size inb).toLoadRect hl) p) Q) := by
  subst ho
  have E2 : (gM.access (Rect.unit (s := S2x1024x2048) ![s.val, 0, 0] S1x1024x2048.size inb)).set ⊆ slab s :=
    Eq.trans_subset (access_set cc0_scratch3 _ _ _) (slab_le s 2048 (by decide))
  unfold StB
  iintro ⟨%f, %hf, Hg⟩ Hk
  iapply (wp_load_rect 𝒱₀ (c : Thread nD τ) none Set.univ (m := gM) (r := Rect.unit (s := S2x1024x2048) ![s.val, 0, 0] S1x1024x2048.size inb) E2) $$ Hg
  iintro Hg
  iapply Hk $$ %_ [] [Hg]
  · ipureintro
    intro y1 y2 j h0 h1
    refine hf _ j ?_ ?_ ?_ ?_
    · show s.val + 1 * 0 = s.val; omega
    · show 0 + 1 * y2.val < 2048; have := y2.isLt; omega
    · show (j 0).val = r + (0 + 1 * y1.val); omega
    · show (j 1).val = k + (0 + 1 * y2.val); omega
  iexists f; iexact Hg

/-- What is stored of a loaded value: it, rounded. -/
abbrev rndB (w : Vec F S1x1024x2048 .f32) : FVec F S1024x2048 .bf16 :=
  shapeCast S1024x2048 (truncf .bf16 (shapeCast S1024x2048 w shapeCasts_S1x1024x2048_S1024x2048) bitsLt_bf16_f32) shapeCasts_S1024x2048_S1024x2048

theorem rndB_apply (w : Vec F S1x1024x2048 .f32) (y1 : Fin 1024) (y2 : Fin 2048) :
    rndB w (ix2 y1 y2) = FloatOps.truncf (F := F) .bf16 bitsLt_bf16_f32 (w (ix3 (0 : Fin 1) y1 y2)) := by
  unfold rndB
  rw [shapeCast_apply _ _ (ix2 y1 y2) (ix2 y1 y2) rfl]
  show FloatOps.truncf (F := F) .bf16 bitsLt_bf16_f32 (shapeCast S1024x2048 w shapeCasts_S1x1024x2048_S1024x2048 (ix2 y1 y2)) = _
  exact congrArg _ (shapeCast_1ab_ab_apply (a := 1024) (b := 2048) w shapeCasts_S1x1024x2048_S1024x2048 y1 y2)

/-- Storing it: the rows buffer's elements as they are to be. -/
theorem wp_storeB (c : Dev nD) (r k : ℕ) {off : Fin 2 → ℕ} (ho : off = ![r, k]) {w : Vec F S1x1024x2048 .f32} (hw : IsB m c r k w)
    {inb : ∀ a, off a + S1024x2048.size a ≤ S4096x2048.size a} {v : FVec F S1024x2048 .bf16} (hv : v = rndB w)
    {hx : (wM.access (Rect.unit (s := S4096x2048) off S1024x2048.size inb)).Stores Finset.univ}
    {hm : (Finset.univ : Finset S1024x2048.Idx) = Finset.univ ∨ ∀ a, (Rect.unit (s := S4096x2048) off S1024x2048.size inb).stride a = 1}
    {α : Type} {Q : α → sProp 𝕄} {p : PUnit → Prog (TpuEff nD τ sig (Elt F) Λ₀ .tc) α} :
    iprop(∃ f, wP (F := F) c (bx2 r 1024 k 2048) f)
      ⊢ iprop((wP c (bx2 r 1024 k 2048) (wF m c) -∗ WP c (p ⟨⟩) Q)
          -∗ WP c (.op (.store wM (Rect.unit (s := S4096x2048) off S1024x2048.size inb) v Finset.univ hx hm) p) Q) := by
  subst ho hv
  have E1 : (wM.access (Rect.unit (s := S4096x2048) ![r, k] S1024x2048.size inb)).set = bx2 r 1024 k 2048 := access_set cc0_scratch1 _ _ _
  iintro ⟨%f, Hx⟩ Hk
  iapply (wp_store 𝒱₀ (c : Thread nD τ) none Set.univ (m := wM) (r := Rect.unit (s := S4096x2048) ![r, k] S1024x2048.size inb) (Mk := Finset.univ)
    (w := rndB w) (S := bx2 r 1024 k 2048) (by rw [View.setOn_univ, E1])) $$ Hx
  iintro Hx
  iapply Hk
  iapply (Entails.of_eq (pointsTo_congr ?_)) $$ Hx
  intro i hi
  rw [← E1] at hi
  obtain ⟨y, -, rfl⟩ := Finset.mem_map.mp hi
  rw [View.write_emb_of_mem _ _ (Finset.mem_univ _)]
  obtain ⟨y0, y1, rfl⟩ : ∃ a b, y = ix2 a b := ⟨_, _, eq_ix2 y⟩
  show rndB w (ix2 y0 y1) = wF m c ((Rect.unit (s := S4096x2048) ![r, k] S1024x2048.size inb).emb (ix2 y0 y1))
  rw [rndB_apply, hw y0 y1 ((Rect.unit (s := S4096x2048) ![r, k] S1024x2048.size inb).emb (ix2 y0 y1))
    (show r + 1 * y0.val = _ by omega) (show k + 1 * y1.val = _ by omega)]
  rfl

/-! ## Other loads and stores -/

/-- A load whose value is not used. -/
theorem wp_load_any (c : Dev nD) {cs : CoreSpace} {s : Shape} {e : EltTy} {M : Memref sig .tc cs s e} {r : Rect s} {hl : M.view.LoadsAt r.toLoadRect}
    {S : Finset (Idx ((M.access r).loc (c : Thread nD τ)))} (hS : (M.access r).set ⊆ S)
    {α : Type} {Q : α → sProp 𝕄} {p : (r.shape.Idx → Elt F e) → Prog (TpuEff nD τ sig (Elt F) Λ₀ .tc) α} :
    iprop(∃ f : Buf (Elt F) ((M.access r).loc (c : Thread nD τ)), (M.access r).loc (c : Thread nD τ) ↦[S]{fullShare} f)
      ⊢ iprop((∀ v : r.shape.Idx → Elt F e, (∃ f : Buf (Elt F) ((M.access r).loc (c : Thread nD τ)), (M.access r).loc (c : Thread nD τ) ↦[S]{fullShare} f) -∗ WP c (p v) Q)
          -∗ WP c (.op (.load M r.toLoadRect hl) p) Q) := by
  iintro ⟨%f, Hx⟩ Hk
  iapply (wp_load_rect 𝒱₀ (c : Thread nD τ) none Set.univ (m := M) (r := r) hS) $$ Hx
  iintro Hx
  iapply Hk
  iexists f; iexact Hx

end Cert.KernelIdeal.Mesh

end
-- ==== Proof.KernelIdeal.Closed.lean ====
/-
The printed offsets and device ids in closed form.
-/
module

public import proofs.«01_k».proof.Proof.KernelIdeal.Local

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

/-! The printed offsets and device ids, in terms of the device. -/

theorem off1_1 (c : Dev nD) : k0_off1 c 1#32 = ![row c 1, 0] := by revert c; decide
theorem off1_2 (c : Dev nD) : k0_off1 c 2#32 = ![row c 2, 0] := by revert c; decide
theorem off1_3 (c : Dev nD) : k0_off1 c 3#32 = ![row c 3, 0] := by revert c; decide
theorem off2_1 (c : Dev nD) : k0_off2 c 1#32 = ![row c 1, 0] := by revert c; decide
theorem off2_2 (c : Dev nD) : k0_off2 c 2#32 = ![row c 2, 0] := by revert c; decide
theorem off2_3 (c : Dev nD) : k0_off2 c 3#32 = ![row c 3, 0] := by revert c; decide
theorem off3_1 (c : Dev nD) : k0_off3 c 1#32 = ![row c 1, 512] := by revert c; decide
theorem off3_2 (c : Dev nD) : k0_off3 c 2#32 = ![row c 2, 512] := by revert c; decide
theorem off3_3 (c : Dev nD) : k0_off3 c 3#32 = ![row c 3, 512] := by revert c; decide
theorem off4_1 (c : Dev nD) : k0_off4 c 1#32 = ![row c 1, 512] := by revert c; decide
theorem off4_2 (c : Dev nD) : k0_off4 c 2#32 = ![row c 2, 512] := by revert c; decide
theorem off4_3 (c : Dev nD) : k0_off4 c 3#32 = ![row c 3, 512] := by revert c; decide
theorem off5 (c : Dev nD) : k0_off5 c = ![row c 0, 0] := by revert c; decide
theorem off6 (c : Dev nD) : k0_off6 c = ![row c 0, 512] := by revert c; decide
theorem off7_0 (c : Dev nD) : k0_off7 c 0#32 = ![row c 2, 0] := by revert c; decide
theorem off7_256 (c : Dev nD) : k0_off7 c 256#32 = ![row c 2 + 256, 0] := by revert c; decide
theorem off7_512 (c : Dev nD) : k0_off7 c 512#32 = ![row c 2 + 512, 0] := by revert c; decide
theorem off7_768 (c : Dev nD) : k0_off7 c 768#32 = ![row c 2 + 768, 0] := by revert c; decide
theorem off8 (c : Dev nD) : k0_off8 c = ![row c 0, 0] := by revert c; decide
theorem off9 (c : Dev nD) : k0_off9 c = ![row c 0, 0] := by revert c; decide
theorem off10 (c : Dev nD) : k0_off10 c = ![row c 0, 512] := by revert c; decide
theorem off11_1 (c : Dev nD) : k0_off11 c 1#32 = ![row c 1, 0] := by revert c; decide
theorem off11_2 (c : Dev nD) : k0_off11 c 2#32 = ![row c 2, 0] := by revert c; decide
theorem off11_3 (c : Dev nD) : k0_off11 c 3#32 = ![row c 3, 0] := by revert c; decide
theorem off12 (c : Dev nD) : k0_off12 c = ![row c 0, 0] := by revert c; decide
theorem off13 (c : Dev nD) : k0_off13 c = ![row c 0, 0] := by revert c; decide
theorem off14_1 (c : Dev nD) : k0_off14 c 1#32 = ![row c 1, 0] := by revert c; decide
theorem off14_2 (c : Dev nD) : k0_off14 c 2#32 = ![row c 2, 0] := by revert c; decide
theorem off14_3 (c : Dev nD) : k0_off14 c 3#32 = ![row c 3, 0] := by revert c; decide

theorem dev1 (c : Dev nD) : (⟨k0_dev1 c, k0_dev1_lt c⟩ : Dev nD) = src 1 c := by revert c; decide
theorem dev2 (c : Dev nD) : (⟨k0_dev2 c, k0_dev2_lt c⟩ : Dev nD) = src 0 c := by revert c; decide
theorem dev3 (c : Dev nD) : (⟨k0_dev3 c, k0_dev3_lt c⟩ : Dev nD) = src 2 c := by revert c; decide
theorem dev4 (c : Dev nD) : (⟨k0_dev4 c, k0_dev4_lt c⟩ : Dev nD) = dst 0 c := by revert c; decide
theorem dev5 (c : Dev nD) : (⟨k0_dev5 c, k0_dev5_lt c⟩ : Dev nD) = dst 1 c := by revert c; decide
theorem dev6 (c : Dev nD) : (⟨k0_dev6 c, k0_dev6_lt c⟩ : Dev nD) = dst 0 c := by revert c; decide
theorem dev7 (c : Dev nD) : (⟨k0_dev7 c, k0_dev7_lt c⟩ : Dev nD) = dst 1 c := by revert c; decide
theorem dev8 (c : Dev nD) : (⟨k0_dev8 c, k0_dev8_lt c⟩ : Dev nD) = dst 2 c := by revert c; decide
theorem dev9 (c : Dev nD) : (⟨k0_dev9 c, k0_dev9_lt c⟩ : Dev nD) = dst 2 c := by revert c; decide
theorem dev10 (c : Dev nD) : (⟨k0_dev10 c, k0_dev10_lt c⟩ : Dev nD) = dst 2 c := by revert c; decide
theorem dev11 (c : Dev nD) : (⟨k0_dev11 c, k0_dev11_lt c⟩ : Dev nD) = dst 2 c := by revert c; decide
theorem dev12 (c : Dev nD) : (⟨k0_dev12 c, k0_dev12_lt c⟩ : Dev nD) = dst 0 c := by revert c; decide
theorem dev13 (c : Dev nD) : (⟨k0_dev13 c, k0_dev13_lt c⟩ : Dev nD) = dst 1 c := by revert c; decide
theorem dev14 (c : Dev nD) : (⟨k0_dev14 c, k0_dev14_lt c⟩ : Dev nD) = dst 2 c := by revert c; decide

end Cert.KernelIdeal.Mesh

end
-- ==== Proof.KernelIdeal.Comp.lean ====
/-
The pieces the buffers are taken in, the stores of the output block, the scalar transfers.
-/
module

public import proofs.«01_k».proof.Proof.KernelIdeal.Closed

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-! ## Splitting and joining points-tos -/

section Split
variable {ℓ : Loc nD τ sig} {q : PosShare TreeShare} {f : Buf (Elt F) ℓ} {U A B C D : Finset (Idx ℓ)}

omit [FloatOps F] in
theorem split2 (h : ∀ i, i ∈ U ↔ i ∈ A ∨ i ∈ B) (hd : ∀ i, i ∈ A → i ∉ B) :
    (ℓ ↦[U]{q} f : sProp 𝕄) ⊣⊢ iprop((ℓ ↦[A]{q} f) ∗ ℓ ↦[B]{q} f) := by
  have e : U = A ∪ B := by ext i; rw [Finset.mem_union]; exact h i
  subst e
  exact pointsTo_union (Finset.disjoint_left.mpr fun i => hd i)

omit [FloatOps F] in
theorem join2_ex (h : ∀ i, i ∈ U ↔ i ∈ A ∨ i ∈ B) (hd : ∀ i, i ∈ A → i ∉ B) :
    iprop((∃ f : Buf (Elt F) ℓ, ℓ ↦[A]{q} f) ∗ ∃ f : Buf (Elt F) ℓ, ℓ ↦[B]{q} f) ⊢ (∃ f : Buf (Elt F) ℓ, ℓ ↦[U]{q} f : sProp 𝕄) := by
  have e : U = A ∪ B := by ext i; rw [Finset.mem_union]; exact h i
  subst e
  iintro ⟨⟨%f, Ha⟩, ⟨%g, Hb⟩⟩
  iexists B.piecewise g f
  iapply (pointsTo_join (Finset.disjoint_left.mpr fun i => hd i)) $$ [$Ha $Hb]

omit [FloatOps F] in
theorem split2_ex (h : ∀ i, i ∈ U ↔ i ∈ A ∨ i ∈ B) (hd : ∀ i, i ∈ A → i ∉ B) :
    (∃ f : Buf (Elt F) ℓ, ℓ ↦[U]{q} f : sProp 𝕄) ⊢ iprop((∃ f : Buf (Elt F) ℓ, ℓ ↦[A]{q} f) ∗ ∃ f : Buf (Elt F) ℓ, ℓ ↦[B]{q} f) := by
  iintro ⟨%f, H⟩
  ihave H := (split2 h hd).1 $$ H
  icases H with ⟨Ha, Hb⟩
  isplitl [Ha]
  · iexists f; iexact Ha
  iexists f; iexact Hb

omit [FloatOps F] in
theorem split4 (h : ∀ i, i ∈ U ↔ i ∈ A ∨ i ∈ B ∨ i ∈ C ∨ i ∈ D)
    (hd : ∀ i, (i ∈ A → i ∉ B ∧ i ∉ C ∧ i ∉ D) ∧ (i ∈ B → i ∉ C ∧ i ∉ D) ∧ (i ∈ C → i ∉ D)) :
    (ℓ ↦[U]{q} f : sProp 𝕄) ⊣⊢ iprop((ℓ ↦[A]{q} f) ∗ (ℓ ↦[B]{q} f) ∗ (ℓ ↦[C]{q} f) ∗ ℓ ↦[D]{q} f) := by
  have h1 := split2 (F := F) (ℓ := ℓ) (q := q) (f := f) (U := U) (A := A) (B := B ∪ (C ∪ D)) (fun i => by simp only [Finset.mem_union]; exact h i)
    (fun i hi => by simp only [Finset.mem_union]; have := (hd i).1 hi; tauto)
  have h2 := split2 (F := F) (ℓ := ℓ) (q := q) (f := f) (U := B ∪ (C ∪ D)) (A := B) (B := C ∪ D) (fun i => by simp only [Finset.mem_union])
    (fun i hi => by simp only [Finset.mem_union]; have := (hd i).2.1 hi; tauto)
  have h3 := split2 (F := F) (ℓ := ℓ) (q := q) (f := f) (U := C ∪ D) (A := C) (B := D) (fun i => by simp only [Finset.mem_union])
    (fun i hi => (hd i).2.2 hi)
  exact ⟨h1.1.trans (sep_mono_right (h2.1.trans (sep_mono_right h3.1))), (sep_mono_right ((sep_mono_right h3.2).trans h2.2)).trans h1.2⟩

omit [FloatOps F] in
theorem split4_ex (h : ∀ i, i ∈ U ↔ i ∈ A ∨ i ∈ B ∨ i ∈ C ∨ i ∈ D)
    (hd : ∀ i, (i ∈ A → i ∉ B ∧ i ∉ C ∧ i ∉ D) ∧ (i ∈ B → i ∉ C ∧ i ∉ D) ∧ (i ∈ C → i ∉ D)) :
    (∃ f : Buf (Elt F) ℓ, ℓ ↦[U]{q} f : sProp 𝕄) ⊢ iprop((∃ f : Buf (Elt F) ℓ, ℓ ↦[A]{q} f) ∗ (∃ f : Buf (Elt F) ℓ, ℓ ↦[B]{q} f)
      ∗ (∃ f : Buf (Elt F) ℓ, ℓ ↦[C]{q} f) ∗ ∃ f : Buf (Elt F) ℓ, ℓ ↦[D]{q} f) := by
  iintro ⟨%f, H⟩
  ihave H := (split4 h hd).1 $$ H
  icases H with ⟨Ha, Hb, Hc, Hd⟩
  isplitl [Ha]; · iexists f; iexact Ha
  isplitl [Hb]; · iexists f; iexact Hb
  isplitl [Hc]; · iexists f; iexact Hc
  iexists f; iexact Hd

omit [FloatOps F] in
theorem join4_ex (h : ∀ i, i ∈ U ↔ i ∈ A ∨ i ∈ B ∨ i ∈ C ∨ i ∈ D)
    (hd : ∀ i, (i ∈ A → i ∉ B ∧ i ∉ C ∧ i ∉ D) ∧ (i ∈ B → i ∉ C ∧ i ∉ D) ∧ (i ∈ C → i ∉ D)) :
    iprop((∃ f : Buf (Elt F) ℓ, ℓ ↦[A]{q} f) ∗ (∃ f : Buf (Elt F) ℓ, ℓ ↦[B]{q} f)
      ∗ (∃ f : Buf (Elt F) ℓ, ℓ ↦[C]{q} f) ∗ ∃ f : Buf (Elt F) ℓ, ℓ ↦[D]{q} f) ⊢ (∃ f : Buf (Elt F) ℓ, ℓ ↦[U]{q} f : sProp 𝕄) := by
  have h1 := join2_ex (F := F) (ℓ := ℓ) (q := q) (U := U) (A := A) (B := B ∪ (C ∪ D)) (fun i => by simp only [Finset.mem_union]; exact h i)
    (fun i hi => by simp only [Finset.mem_union]; have := (hd i).1 hi; tauto)
  have h2 := join2_ex (F := F) (ℓ := ℓ) (q := q) (U := B ∪ (C ∪ D)) (A := B) (B := C ∪ D) (fun i => by simp only [Finset.mem_union])
    (fun i hi => by simp only [Finset.mem_union]; have := (hd i).2.1 hi; tauto)
  have h3 := join2_ex (F := F) (ℓ := ℓ) (q := q) (U := C ∪ D) (A := C) (B := D) (fun i => by simp only [Finset.mem_union])
    (fun i hi => (hd i).2.2 hi)
  exact (sep_mono_right ((sep_mono_right h3).trans h2)).trans h1

end Split

/-! ## The pieces of each buffer -/

/-- Two column halves of some rows of the rows buffer. -/
theorem xcols_mem (r h : ℕ) (i : S4096x1024.Idx) : i ∈ (bx2 r h 0 1024 : Finset S4096x1024.Idx) ↔ i ∈ (bx2 r h 0 512 : Finset S4096x1024.Idx) ∨ i ∈ (bx2 r h 512 512 : Finset S4096x1024.Idx) := by
  simp only [mem_bx2]; omega
theorem xcols_dis (r h : ℕ) (i : S4096x1024.Idx) : i ∈ (bx2 r h 0 512 : Finset S4096x1024.Idx) → i ∉ (bx2 r h 512 512 : Finset S4096x1024.Idx) := by
  simp only [mem_bx2]; omega
/-- Four row quarters of one device's rows. -/
theorem xquart_mem (r : ℕ) (i : S4096x1024.Idx) : i ∈ (bx2 r 1024 0 1024 : Finset S4096x1024.Idx)
    ↔ i ∈ (bx2 (r + 0) 256 0 1024 : Finset S4096x1024.Idx) ∨ i ∈ (bx2 (r + 256) 256 0 1024 : Finset S4096x1024.Idx)
      ∨ i ∈ (bx2 (r + 512) 256 0 1024 : Finset S4096x1024.Idx) ∨ i ∈ (bx2 (r + 768) 256 0 1024 : Finset S4096x1024.Idx) := by
  simp only [mem_bx2]; omega
theorem xquart_dis (r : ℕ) (i : S4096x1024.Idx) :
    (i ∈ (bx2 (r + 0) 256 0 1024 : Finset S4096x1024.Idx) → i ∉ (bx2 (r + 256) 256 0 1024 : Finset S4096x1024.Idx)
        ∧ i ∉ (bx2 (r + 512) 256 0 1024 : Finset S4096x1024.Idx) ∧ i ∉ (bx2 (r + 768) 256 0 1024 : Finset S4096x1024.Idx))
      ∧ (i ∈ (bx2 (r + 256) 256 0 1024 : Finset S4096x1024.Idx)
        → i ∉ (bx2 (r + 512) 256 0 1024 : Finset S4096x1024.Idx) ∧ i ∉ (bx2 (r + 768) 256 0 1024 : Finset S4096x1024.Idx))
      ∧ (i ∈ (bx2 (r + 512) 256 0 1024 : Finset S4096x1024.Idx) → i ∉ (bx2 (r + 768) 256 0 1024 : Finset S4096x1024.Idx)) := by
  simp only [mem_bx2]; omega
/-- The four devices' rows. -/
theorem xrows_mem (c : Dev nD) (i : S4096x1024.Idx) : i ∈ (Finset.univ : Finset S4096x1024.Idx)
    ↔ i ∈ (bx2 (row c 0) 1024 0 1024 : Finset S4096x1024.Idx) ∨ i ∈ (bx2 (row c 1) 1024 0 1024 : Finset S4096x1024.Idx) ∨ i ∈ (bx2 (row c 2) 1024 0 1024 : Finset S4096x1024.Idx) ∨ i ∈ (bx2 (row c 3) 1024 0 1024 : Finset S4096x1024.Idx) := by
  have h0 : (i 0).val < 4096 := (i 0).isLt
  have h1 : (i 1).val < 1024 := (i 1).isLt
  have hc : c.val < 4 := c.isLt
  simp only [mem_bx2, row, Finset.mem_univ, true_iff]; omega
theorem xrows_dis (c : Dev nD) (i : S4096x1024.Idx) :
    (i ∈ (bx2 (row c 0) 1024 0 1024 : Finset S4096x1024.Idx) → i ∉ (bx2 (row c 1) 1024 0 1024 : Finset S4096x1024.Idx) ∧ i ∉ (bx2 (row c 2) 1024 0 1024 : Finset S4096x1024.Idx) ∧ i ∉ (bx2 (row c 3) 1024 0 1024 : Finset S4096x1024.Idx))
      ∧ (i ∈ (bx2 (row c 1) 1024 0 1024 : Finset S4096x1024.Idx) → i ∉ (bx2 (row c 2) 1024 0 1024 : Finset S4096x1024.Idx) ∧ i ∉ (bx2 (row c 3) 1024 0 1024 : Finset S4096x1024.Idx)) ∧ (i ∈ (bx2 (row c 2) 1024 0 1024 : Finset S4096x1024.Idx) → i ∉ (bx2 (row c 3) 1024 0 1024 : Finset S4096x1024.Idx)) := by
  have hc : c.val < 4 := c.isLt
  simp only [mem_bx2, row]; omega
theorem wrows_mem (c : Dev nD) (i : S4096x2048.Idx) : i ∈ (Finset.univ : Finset S4096x2048.Idx)
    ↔ i ∈ (bx2 (row c 0) 1024 0 2048 : Finset S4096x2048.Idx) ∨ i ∈ (bx2 (row c 1) 1024 0 2048 : Finset S4096x2048.Idx) ∨ i ∈ (bx2 (row c 2) 1024 0 2048 : Finset S4096x2048.Idx) ∨ i ∈ (bx2 (row c 3) 1024 0 2048 : Finset S4096x2048.Idx) := by
  have h0 : (i 0).val < 4096 := (i 0).isLt
  have h1 : (i 1).val < 2048 := (i 1).isLt
  have hc : c.val < 4 := c.isLt
  simp only [mem_bx2, row, Finset.mem_univ, true_iff]; omega
theorem wrows_dis (c : Dev nD) (i : S4096x2048.Idx) :
    (i ∈ (bx2 (row c 0) 1024 0 2048 : Finset S4096x2048.Idx) → i ∉ (bx2 (row c 1) 1024 0 2048 : Finset S4096x2048.Idx) ∧ i ∉ (bx2 (row c 2) 1024 0 2048 : Finset S4096x2048.Idx) ∧ i ∉ (bx2 (row c 3) 1024 0 2048 : Finset S4096x2048.Idx))
      ∧ (i ∈ (bx2 (row c 1) 1024 0 2048 : Finset S4096x2048.Idx) → i ∉ (bx2 (row c 2) 1024 0 2048 : Finset S4096x2048.Idx) ∧ i ∉ (bx2 (row c 3) 1024 0 2048 : Finset S4096x2048.Idx)) ∧ (i ∈ (bx2 (row c 2) 1024 0 2048 : Finset S4096x2048.Idx) → i ∉ (bx2 (row c 3) 1024 0 2048 : Finset S4096x2048.Idx)) := by
  have hc : c.val < 4 := c.isLt
  simp only [mem_bx2, row]; omega
/-- The four row quarters of the output block. -/
abbrev oq (q : Fin 4) : Finset S1024x2048.Idx := bx2 (256 * q.val) 256 0 2048
theorem oq_mem (i : S1024x2048.Idx) : i ∈ (Finset.univ : Finset S1024x2048.Idx) ↔ i ∈ oq 0 ∨ i ∈ oq 1 ∨ i ∈ oq 2 ∨ i ∈ oq 3 := by
  have h0 : (i 0).val < 1024 := (i 0).isLt
  have h1 : (i 1).val < 2048 := (i 1).isLt
  simp only [mem_bx2, oq, Finset.mem_univ, true_iff]; change _ ∨ (256 ≤ _ ∧ _) ∧ _ ∨ (512 ≤ _ ∧ _) ∧ _ ∨ (768 ≤ _ ∧ _) ∧ _; simp; omega
theorem oq_dis (i : S1024x2048.Idx) : (i ∈ oq 0 → i ∉ oq 1 ∧ i ∉ oq 2 ∧ i ∉ oq 3) ∧ (i ∈ oq 1 → i ∉ oq 2 ∧ i ∉ oq 3) ∧ (i ∈ oq 2 → i ∉ oq 3) := by
  simp only [mem_bx2, oq]; simp; omega

/-- The landing slots: of the rows by halves of the columns, or by quarters of the rows. -/
theorem rhalf_mem (s : Fin 3) (i : S3x1024x1024.Idx) : i ∈ slotBox s ↔ i ∈ (bx3 s.val 1 0 1024 0 512 : Finset S3x1024x1024.Idx) ∨ i ∈ (bx3 s.val 1 0 1024 512 512 : Finset S3x1024x1024.Idx) := by
  simp only [mem_bx3, slotBox]; omega
theorem rhalf_dis (s : Fin 3) (i : S3x1024x1024.Idx) : i ∈ (bx3 s.val 1 0 1024 0 512 : Finset S3x1024x1024.Idx) → i ∉ (bx3 s.val 1 0 1024 512 512 : Finset S3x1024x1024.Idx) := by
  simp only [mem_bx3]; omega
abbrev rq (q : ℕ) : Finset S3x1024x1024.Idx := bx3 2 1 q 256 0 1024
theorem rquart_mem (i : S3x1024x1024.Idx) : i ∈ slotBox 2 ↔ i ∈ rq 0 ∨ i ∈ rq 256 ∨ i ∈ rq 512 ∨ i ∈ rq 768 := by
  simp only [mem_bx3, slotBox, rq]; simp; omega
theorem rquart_dis (i : S3x1024x1024.Idx) : (i ∈ rq 0 → i ∉ rq 256 ∧ i ∉ rq 512 ∧ i ∉ rq 768) ∧ (i ∈ rq 256 → i ∉ rq 512 ∧ i ∉ rq 768) ∧ (i ∈ rq 512 → i ∉ rq 768) := by
  simp only [mem_bx3, rq]; omega
theorem slots_mem (i : S3x1024x1024.Idx) : i ∈ (Finset.univ : Finset S3x1024x1024.Idx) ↔ i ∈ slotBox 0 ∨ i ∈ slotBox 1 ∨ i ∈ slotBox 2 ∨ i ∈ (∅ : Finset S3x1024x1024.Idx) := by
  have h0 : (i 0).val < 3 := (i 0).isLt
  have h1 : (i 1).val < 1024 := (i 1).isLt
  have h2 : (i 2).val < 1024 := (i 2).isLt
  simp only [mem_bx3, slotBox, Finset.mem_univ, true_iff, Finset.notMem_empty]; simp; omega
theorem slots_dis (i : S3x1024x1024.Idx) : (i ∈ slotBox 0 → i ∉ slotBox 1 ∧ i ∉ slotBox 2 ∧ i ∉ (∅ : Finset S3x1024x1024.Idx))
    ∧ (i ∈ slotBox 1 → i ∉ slotBox 2 ∧ i ∉ (∅ : Finset S3x1024x1024.Idx)) ∧ (i ∈ slotBox 2 → i ∉ (∅ : Finset S3x1024x1024.Idx)) := by
  simp only [mem_bx3, slotBox, Finset.notMem_empty]; simp; omega
/-- The scalars' slots: their first rows, and the second row of all three. -/
abbrev qRest : Finset S3x2x128.Idx := bx3 0 3 1 1 0 128
theorem qslots_mem (i : S3x2x128.Idx) : i ∈ (Finset.univ : Finset S3x2x128.Idx) ↔ i ∈ qBox 0 ∨ i ∈ qBox 1 ∨ i ∈ qBox 2 ∨ i ∈ qRest := by
  have h0 : (i 0).val < 3 := (i 0).isLt
  have h1 : (i 1).val < 2 := (i 1).isLt
  have h2 : (i 2).val < 128 := (i 2).isLt
  simp only [mem_bx3, qBox, qRest, Finset.mem_univ, true_iff]; simp; omega
theorem qslots_dis (i : S3x2x128.Idx) : (i ∈ qBox 0 → i ∉ qBox 1 ∧ i ∉ qBox 2 ∧ i ∉ qRest) ∧ (i ∈ qBox 1 → i ∉ qBox 2 ∧ i ∉ qRest) ∧ (i ∈ qBox 2 → i ∉ qRest) := by
  simp only [mem_bx3, qBox, qRest]; simp; omega
/-- The two staging slots, the two rows of the scalars to send. -/
theorem slabs_mem (i : S2x1024x2048.Idx) : i ∈ (Finset.univ : Finset S2x1024x2048.Idx) ↔ i ∈ slab 0 ∨ i ∈ slab 1 := by
  have h0 : (i 0).val < 2 := (i 0).isLt
  have h1 : (i 1).val < 1024 := (i 1).isLt
  have h2 : (i 2).val < 2048 := (i 2).isLt
  simp only [mem_bx3, slab, Finset.mem_univ, true_iff]; simp; omega
theorem slabs_dis (i : S2x1024x2048.Idx) : i ∈ slab 0 → i ∉ slab 1 := by
  simp only [mem_bx3, slab]; simp; omega
theorem prows_mem (i : S2x128.Idx) : i ∈ (Finset.univ : Finset S2x128.Idx) ↔ i ∈ pBox ∨ i ∈ (bx2 1 1 0 128 : Finset S2x128.Idx) := by
  have h0 : (i 0).val < 2 := (i 0).isLt
  have h1 : (i 1).val < 128 := (i 1).isLt
  simp only [mem_bx2, pBox, Finset.mem_univ, true_iff]; omega
theorem prows_dis (i : S2x128.Idx) : i ∈ pBox → i ∉ (bx2 1 1 0 128 : Finset S2x128.Idx) := by
  simp only [mem_bx2, pBox]; omega

/-! ## Stores of the output block -/

/-- Storing over some elements which are the whole of a rectangle, when what is stored is what they are to hold. -/
theorem wp_store_to (c : Dev nD) {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {S : Finset (Idx ((M.access r).loc (c : Thread nD τ)))} (hS : (M.access r).set = S) {g : Buf (Elt F) ((M.access r).loc (c : Thread nD τ))}
    (hg : ∀ y, (M.access r).read (Elt F) g y = w y)
    {α : Type} {Q : α → sProp 𝕄} {p : PUnit → Prog (TpuEff nD τ sig (Elt F) Λ₀ .tc) α} :
    iprop(∃ f : Buf (Elt F) ((M.access r).loc (c : Thread nD τ)), (M.access r).loc (c : Thread nD τ) ↦[S]{fullShare} f)
      ⊢ iprop((((M.access r).loc (c : Thread nD τ) ↦[S]{fullShare} g) -∗ WP c (p ⟨⟩) Q)
          -∗ WP c (.op (.store M r w Finset.univ hx hm) p) Q) := by
  iintro ⟨%f, Hx⟩ Hk
  iapply (wp_store 𝒱₀ (c : Thread nD τ) none Set.univ (m := M) (r := r) (Mk := Finset.univ) (w := w) (S := S) (by rw [View.setOn_univ, hS])) $$ Hx
  iintro Hx
  iapply Hk
  iapply (Entails.of_eq (pointsTo_congr ?_)) $$ Hx
  intro i hi
  rw [← hS] at hi
  obtain ⟨y, -, rfl⟩ := Finset.mem_map.mp hi
  rw [View.write_emb_of_mem _ _ (Finset.mem_univ _), ← hg y]
  unfold View.read
  simp

theorem o3_read (c : Dev nD) (q : Fin 4) (y : S256x2048.Idx) :
    (oM.access (Rect.unit (s := S1024x2048) ![256 * q.val, 0] S256x2048.size (inb_ldo q))).read (Elt F) (o3 m c) y = qv m c q y := by
  obtain ⟨y0, y1, rfl⟩ : ∃ a b, y = ix2 a b := ⟨_, _, eq_ix2 y⟩
  show o3 m c _ = _
  unfold o3
  have e1 : (⟨((Rect.unit (s := S1024x2048) ![256 * q.val, 0] S256x2048.size (inb_ldo q)).emb (ix2 y0 y1) 0).val / 256, by
      have := idx2_lt0 ((Rect.unit (s := S1024x2048) ![256 * q.val, 0] S256x2048.size (inb_ldo q)).emb (ix2 y0 y1)); omega⟩ : Fin 4) = q :=
    Fin.ext (show (256 * q.val + 1 * y0.val) / 256 = q.val by have := y0.isLt; omega)
  have e2 : (⟨((Rect.unit (s := S1024x2048) ![256 * q.val, 0] S256x2048.size (inb_ldo q)).emb (ix2 y0 y1) 0).val % 256, Nat.mod_lt _ (by decide)⟩ : Fin 256) = y0 :=
    Fin.ext (show (256 * q.val + 1 * y0.val) % 256 = y0.val by have := y0.isLt; omega)
  have e3 : ((Rect.unit (s := S1024x2048) ![256 * q.val, 0] S256x2048.size (inb_ldo q)).emb (ix2 y0 y1) 1 : Fin 2048) = y1 :=
    Fin.ext (show 0 + 1 * y1.val = y1.val by omega)
  exact (congrArg₂ (fun a b => qv m c a b) e1 (congrArg₂ ix2 e2 e3))

/-! ## Scalar transfers -/

theorem pay35_eq (a b : F .f32) (y : S1x128.Idx) : k0_pay35 a b y = k0_pay34 a b := by
  rfl

theorem dst_src_slot (j : Fin 11) (c : Dev nD) : src (jSlot j) (dst (jSlot j) c) = c := src_dst _ _

/-- Issuing scalar transfer `j`. -/
theorem wp_sendA (c n : Dev nD) (j : Fin 11) (hj : ¬ j.val < 8) (hn : n = dst (jSlot j) c)
    {offD : Fin 3 → ℕ} (hoD : offD = ![(jSlot j).val, 0, 0])
    {inbS : ∀ a, (![0, 0] : Fin 2 → ℕ) a + S1x128.size a ≤ S2x128.size a} {inbD : ∀ a, offD a + S1x1x128.size a ≤ S3x2x128.size a}
    {hs : ∀ a, (Rect.unit (s := S2x128) ![0, 0] S1x128.size inbS).stride a = 1}
    {hd : ∀ a, (Rect.unit (s := S3x2x128) offD S1x1x128.size inbD).stride a = 1}
    {hsq : S1x1x128.Squeezes S1x128}
    {sS sR : DmaSem sig} (hS : csem (sK j) = .dma sS) (hR : csem (rK j) = .dma sR)
    (hN : ((qM.slice (Rect.unit (s := S3x2x128) offD S1x1x128.size inbD) hd).squeeze S1x128 hsq).view.amount (.dma sR) = amt j)
    {hsc : ((qM.slice (Rect.unit (s := S3x2x128) offD S1x1x128.size inbD) hd).squeeze S1x128 hsq).view.ref.isScScratch = false}
    {hsrc : (pM.slice (Rect.unit (s := S2x128) ![0, 0] S1x128.size inbS) hs).view.WordExact}
    {hdst : ((qM.slice (Rect.unit (s := S3x2x128) offD S1x1x128.size inbD) hd).squeeze S1x128 hsq).view.WordExact}
    {hsem : DmaTarget.Typed .vmem (.dma sR) (.remote (Dev.tc n : Thread nD τ)
      ((qM.slice (Rect.unit (s := S3x2x128) offD S1x1x128.size inbD) hd).squeeze S1x128 hsq) (.dma sS) hsc)}
    {α : Type} {Q : α → sProp 𝕄} {k : PUnit → Prog (TpuEff nD τ sig (Elt F) Λ₀ .tc) α} :
    iprop(Recs m K ∗ pP c pBox (pShare (jSlot j)) (pF m c) ∗ (∃ f, qP (F := F) (dst (jSlot j) c) (qBox (jSlot j)) f) ∗ Ow c (jPos j) ∗ Tok c j)
      ⊢ iprop((iprop(Sent c j ∗ Ow c (jPos j + 1)) -∗ WP c (k ⟨⟩) Q)
          -∗ WP c (.op (.enqueueDma (pM.slice (Rect.unit (s := S2x128) ![0, 0] S1x128.size inbS) hs)
            (.remote (Dev.tc n : Thread nD τ) ((qM.slice (Rect.unit (s := S3x2x128) offD S1x1x128.size inbD) hd).squeeze S1x128 hsq) (.dma sS) hsc)
            (.dma sR) hsrc hdst hsem) k) Q) := by
  subst hn hoD
  have E1 : (pM.slice (Rect.unit (s := S2x128) ![0, 0] S1x128.size inbS) hs).view.set = pBox := slice_set cc0_scratch4 _ _ _ _
  have E2 : ((qM.slice (Rect.unit (s := S3x2x128) ![(jSlot j).val, 0, 0] S1x1x128.size inbD) hd).squeeze S1x128 hsq).view.set = qBox (jSlot j) :=
    squeeze_set cc0_scratch5 _ _ _ _ _
  iintro ⟨#HR, Hx, ⟨%fd, Hr⟩, HO, Ht⟩
  iapply (wp_send' m K c _ j rfl hS hR hN (q := pShare (jSlot j)) (fs := pF m c) (fd := fd)
    (by rw [E1]; unfold sendPay; rw [if_neg hj])
    (by
      rw [E2]; unfold recvPay; rw [if_neg hj]
      refine Entails.of_eq (pointsTo_congr fun i hi => ?_)
      have h0 : i 0 = jSlot j := Fin.ext (by rw [mem_bx3] at hi; omega)
      have hq : qF m (dst (jSlot j) c) i = mx m c := by unfold qF; rw [h0, src_dst]
      rw [hq]
      rw [← E2] at hi
      obtain ⟨y, -, rfl⟩ := Finset.mem_map.mp hi
      rw [View.write_emb_of_mem _ _ (Finset.mem_univ _)]
      rfl)) $$ [HR Hx Hr HO Ht]
  isplitr; · iexact HR
  isplitl [Hx]; · rw [E1]; iexact Hx
  isplitl [Hr]; · rw [E2]; iexact Hr
  isplitl [HO] <;> iassumption

end Cert.KernelIdeal.Mesh

end
-- ==== Proof.KernelIdeal.Steps.lean ====
/-
The single steps of the run in the form the run takes them.
-/
module

public import proofs.«01_k».proof.Proof.KernelIdeal.Comp

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

omit [FloatOps F] in
/-- The elements a rectangle of a whole buffer covers, its offset in another form. -/
theorem acc_eq (b : Ref sig .tc) {off off' size : Fin b.ty.shape.rank → ℕ} (ho : off = off') {inb : ∀ a, off a + size a ≤ b.ty.shape.size a} :
    ((Memref.whole b).access (Rect.unit (s := b.ty.shape) off size inb)).set = box off' size := by
  subst ho; exact access_set b off size inb

/-! ## Loads whose value is named -/

theorem wp_load_val (c : Dev nD) {cs : CoreSpace} {s : Shape} {e : EltTy} {M : Memref sig .tc cs s e} {r : Rect s} {hl : M.view.LoadsAt r.toLoadRect}
    {S : Finset (Idx ((M.access r).loc (c : Thread nD τ)))} {q : PosShare TreeShare} {f : Buf (Elt F) ((M.access r).loc (c : Thread nD τ))}
    (hS : (M.access r).set ⊆ S) {v : r.shape.Idx → Elt F e} (hv : (M.access r).read (Elt F) f = v)
    {α : Type} {Q : α → sProp 𝕄} {p : (r.shape.Idx → Elt F e) → Prog (TpuEff nD τ sig (Elt F) Λ₀ .tc) α} :
    ((M.access r).loc (c : Thread nD τ) ↦[S]{q} f)
      ⊢ iprop((((M.access r).loc (c : Thread nD τ) ↦[S]{q} f) -∗ WP c (p v) Q) -∗ WP c (.op (.load M r.toLoadRect hl) p) Q) := by
  subst hv
  iintro Hx Hk
  iapply (wp_load_rect 𝒱₀ (c : Thread nD τ) none Set.univ (m := M) (r := r) hS) $$ Hx
  iexact Hk

theorem ldx_eq (c : Dev nD) : (xM.access (Rect.unit (s := S4096x1024) (k0_off13 c) S1024x1024.size (k0_off13_inb c))).read (Elt F) (xF m c) = ldx m c := rfl
theorem ldw0_eq (c : Dev nD) : (wM.access (Rect.unit (s := S4096x2048) (k0_off12 c) S1024x2048.size (k0_off12_inb c))).read (Elt F) (wF m c) = ldw0 m c := rfl
theorem ldw3_eq (c : Dev nD) : (wM.access (Rect.unit (s := S4096x2048) (k0_off14 c 3#32) S1024x2048.size (k0_off14_inb c 2))).read (Elt F) (wF m c) = ldw3 m c := rfl
theorem ldw1_eq (c : Dev nD) : (wM.access (Rect.unit (s := S4096x2048) (k0_off14 c 1#32) S1024x2048.size (k0_off14_inb c 0))).read (Elt F) (wF m c) = ldw1 m c := rfl
theorem ldw2_eq (c : Dev nD) : (wM.access (Rect.unit (s := S4096x2048) (k0_off14 c 2#32) S1024x2048.size (k0_off14_inb c 1))).read (Elt F) (wF m c) = ldw2 m c := rfl
theorem ldr_eq0 (c : Dev nD) : (rM.access (Rect.unit (s := S3x1024x1024) ![0, 0, 0] S1x1024x1024.size inb_S3x1024x1024_S1x1024x1024_0_0_0)).read (Elt F) (rF m c) = ldr m c 0 := rfl
theorem ldr_eq1 (c : Dev nD) : (rM.access (Rect.unit (s := S3x1024x1024) ![1, 0, 0] S1x1024x1024.size inb_S3x1024x1024_S1x1024x1024_1_0_0)).read (Elt F) (rF m c) = ldr m c 1 := rfl
theorem ldq_eq0 (c : Dev nD) : (rM.access (Rect.unit (s := S3x1024x1024) ![2, 0, 0] S1x256x1024.size inb_S3x1024x1024_S1x256x1024_2_0_0)).read (Elt F) (rF m c) = ldq m c 0 := rfl
theorem ldo_eq0 (c : Dev nD) : (oM.access (Rect.unit (s := S1024x2048) ![0, 0] S256x2048.size inb_S1024x2048_S256x2048_0_0)).read (Elt F) (o2 m c) = ldo m c 0 := rfl
theorem qv_eq0 (c : Dev nD) : (oM.access (Rect.unit (s := S1024x2048) ![0, 0] S256x2048.size inb_S1024x2048_S256x2048_0_0)).read (Elt F) (o3 m c) = qv m c 0 := funext (o3_read m c 0)
theorem ldq_eq1 (c : Dev nD) : (rM.access (Rect.unit (s := S3x1024x1024) ![2, 256, 0] S1x256x1024.size inb_S3x1024x1024_S1x256x1024_2_256_0)).read (Elt F) (rF m c) = ldq m c 1 := rfl
theorem ldo_eq1 (c : Dev nD) : (oM.access (Rect.unit (s := S1024x2048) ![256, 0] S256x2048.size inb_S1024x2048_S256x2048_256_0)).read (Elt F) (o2 m c) = ldo m c 1 := rfl
theorem qv_eq1 (c : Dev nD) : (oM.access (Rect.unit (s := S1024x2048) ![256, 0] S256x2048.size inb_S1024x2048_S256x2048_256_0)).read (Elt F) (o3 m c) = qv m c 1 := funext (o3_read m c 1)
theorem ldq_eq2 (c : Dev nD) : (rM.access (Rect.unit (s := S3x1024x1024) ![2, 512, 0] S1x256x1024.size inb_S3x1024x1024_S1x256x1024_2_512_0)).read (Elt F) (rF m c) = ldq m c 2 := rfl
theorem ldo_eq2 (c : Dev nD) : (oM.access (Rect.unit (s := S1024x2048) ![512, 0] S256x2048.size inb_S1024x2048_S256x2048_512_0)).read (Elt F) (o2 m c) = ldo m c 2 := rfl
theorem qv_eq2 (c : Dev nD) : (oM.access (Rect.unit (s := S1024x2048) ![512, 0] S256x2048.size inb_S1024x2048_S256x2048_512_0)).read (Elt F) (o3 m c) = qv m c 2 := funext (o3_read m c 2)
theorem ldq_eq3 (c : Dev nD) : (rM.access (Rect.unit (s := S3x1024x1024) ![2, 768, 0] S1x256x1024.size inb_S3x1024x1024_S1x256x1024_2_768_0)).read (Elt F) (rF m c) = ldq m c 3 := rfl
theorem ldo_eq3 (c : Dev nD) : (oM.access (Rect.unit (s := S1024x2048) ![768, 0] S256x2048.size inb_S1024x2048_S256x2048_768_0)).read (Elt F) (o2 m c) = ldo m c 3 := rfl
theorem qv_eq3 (c : Dev nD) : (oM.access (Rect.unit (s := S1024x2048) ![768, 0] S256x2048.size inb_S1024x2048_S256x2048_768_0)).read (Elt F) (o3 m c) = qv m c 3 := funext (o3_read m c 3)
theorem lda_eq0 (c : Dev nD) : (qM.access (Rect.unit (s := S3x2x128) ![0, 0, 0] S1x1x1.size inb_S3x2x128_S1x1x1_0_0_0)).read (Elt F) (qF m c) = lda m c 0 := rfl
theorem lda_eq1 (c : Dev nD) : (qM.access (Rect.unit (s := S3x2x128) ![1, 0, 0] S1x1x1.size inb_S3x2x128_S1x1x1_1_0_0)).read (Elt F) (qF m c) = lda m c 1 := rfl
theorem lda_eq2 (c : Dev nD) : (qM.access (Rect.unit (s := S3x2x128) ![2, 0, 0] S1x1x1.size inb_S3x2x128_S1x1x1_2_0_0)).read (Elt F) (qF m c) = lda m c 2 := rfl
theorem whole_eq (f : FVec F S1024x2048 .f32) :
    (oM.access (Rect.unit (s := S1024x2048) ![0, 0] S1024x2048.size inb_S1024x2048_S1024x2048_0_0)).read (Elt F) f = f := by
  funext y
  show f _ = f y
  congr 1
  funext a
  refine Fin.ext ?_
  match a with
  | ⟨0, _⟩ => exact (show 0 + 1 * (y 0).val = (y 0).val by omega)
  | ⟨1, _⟩ => exact (show 0 + 1 * (y 1).val = (y 1).val by omega)
theorem lda_sub (s : Fin 3) : (box ![s.val, 0, 0] S1x1x1.size : Finset S3x2x128.Idx) ⊆ qBox s := by
  intro i hi
  have hi : i ∈ (bx3 s.val 1 0 1 0 1 : Finset S3x2x128.Idx) := hi
  rw [mem_bx3] at hi ⊢; omega

/-- Storing the whole output block. -/
theorem wp_storeO (c : Dev nD) {v g : FVec F S1024x2048 .f32} (hv : v = g)
    {hx : (oM.access (Rect.unit (s := S1024x2048) ![0, 0] S1024x2048.size inb_S1024x2048_S1024x2048_0_0)).Stores Finset.univ}
    {hm : (Finset.univ : Finset S1024x2048.Idx) = Finset.univ ∨ ∀ a, (Rect.unit (s := S1024x2048) ![0, 0] S1024x2048.size inb_S1024x2048_S1024x2048_0_0).stride a = 1}
    {α : Type} {Q : α → sProp 𝕄} {p : PUnit → Prog (TpuEff nD τ sig (Elt F) Λ₀ .tc) α} :
    iprop(∃ f, oP (F := F) c Finset.univ f)
      ⊢ iprop((oP c Finset.univ g -∗ WP c (p ⟨⟩) Q)
          -∗ WP c (.op (.store oM (Rect.unit (s := S1024x2048) ![0, 0] S1024x2048.size inb_S1024x2048_S1024x2048_0_0) v Finset.univ hx hm) p) Q) := by
  subst hv
  refine wp_store_to c (M := oM) (r := Rect.unit (s := S1024x2048) ![0, 0] S1024x2048.size inb_S1024x2048_S1024x2048_0_0) (g := v) (w := v) ?_ (fun y => congrFun (whole_eq v) y)
  rw [acc_eq cc0_stg0_0 rfl]
  ext i
  have h0 : (i 0).val < 1024 := (i 0).isLt
  have h1 : (i 1).val < 2048 := (i 1).isLt
  show i ∈ (bx2 0 1024 0 2048 : Finset S1024x2048.Idx) ↔ _
  rw [mem_bx2]
  simp only [Finset.mem_univ, iff_true]; omega

/-- Storing a quarter of its rows. -/
theorem wp_storeQ (c : Dev nD) (q : Fin 4) {off : Fin 2 → ℕ} (ho : off = ![256 * q.val, 0]) {v : FVec F S256x2048 .f32} (hv : v = qv m c q)
    {inb : ∀ a, off a + S256x2048.size a ≤ S1024x2048.size a}
    {hx : (oM.access (Rect.unit (s := S1024x2048) off S256x2048.size inb)).Stores Finset.univ}
    {hm : (Finset.univ : Finset S256x2048.Idx) = Finset.univ ∨ ∀ a, (Rect.unit (s := S1024x2048) off S256x2048.size inb).stride a = 1}
    {α : Type} {Q : α → sProp 𝕄} {p : PUnit → Prog (TpuEff nD τ sig (Elt F) Λ₀ .tc) α} :
    oP c (oq q) (o2 m c)
      ⊢ iprop((oP c (oq q) (o3 m c) -∗ WP c (p ⟨⟩) Q)
          -∗ WP c (.op (.store oM (Rect.unit (s := S1024x2048) off S256x2048.size inb) v Finset.univ hx hm) p) Q) := by
  subst ho hv
  iintro H
  iapply (wp_store_to c (M := oM) (r := Rect.unit (s := S1024x2048) ![256 * q.val, 0] S256x2048.size inb) (S := oq q) (g := o3 m c) (w := qv m c q)
    (acc_eq cc0_stg0_0 rfl) (o3_read m c q))
  iexists o2 m c
  iexact H

/-- Storing the scalar along the row to send. -/
theorem wp_storeP (c : Dev nD) {a b : F .f32} (hv : k0_pay34 a b = mx m c)
    {hx : (pM.access (Rect.unit (s := S2x128) ![0, 0] S1x128.size inb_S2x128_S1x128_0_0)).Stores Finset.univ}
    {hm : (Finset.univ : Finset S1x128.Idx) = Finset.univ ∨ ∀ a, (Rect.unit (s := S2x128) ![0, 0] S1x128.size inb_S2x128_S1x128_0_0).stride a = 1}
    {α : Type} {Q : α → sProp 𝕄} {p : PUnit → Prog (TpuEff nD τ sig (Elt F) Λ₀ .tc) α} :
    iprop(∃ f, pP (F := F) c pBox fullShare f)
      ⊢ iprop((pP c pBox fullShare (pF m c) -∗ WP c (p ⟨⟩) Q)
          -∗ WP c (.op (.store pM (Rect.unit (s := S2x128) ![0, 0] S1x128.size inb_S2x128_S1x128_0_0) (k0_pay35 a b) Finset.univ hx hm) p) Q) :=
  wp_store_to c (M := pM) (r := Rect.unit (s := S2x128) ![0, 0] S1x128.size inb_S2x128_S1x128_0_0) (S := pBox) (g := pF m c) (w := k0_pay35 a b)
    (acc_eq cc0_scratch4 rfl) (fun y => ((pay35_eq a b y).trans hv).symm)

/-! ## Waits for the transfers, what each brings in its own form -/

theorem wp_waitSX (c : Dev nD) (j : Fin 11) (hj : j.val < 8) (n : ℕ) {S : Finset S4096x1024.Idx} (hSx : S = xBox c j) {sS : DmaSem sig} (hS : csem (sK j) = .dma sS)
    {sp' sp : Space} {s' s : Shape} {e' e : EltTy} {κ' : Kind}
    {srcw : Memref sig .tc sp' s' e'} {dstw : Memref sig κ' sp s e} {hsrc : srcw.view.WordExact} {hdst : dstw.view.WordExact}
    (hN : dstw.view.dmaCredit = amt j) (hlv : ((debts 0).drop n).all fun p => decide (0 < lvK p.2.castSucc))
    {α : Type} {Q : α → sProp 𝕄} {k : PUnit → Prog (TpuEff nD τ sig (Elt F) Λ₀ .tc) α} :
    iprop(Recs m K ∗ Ow c n ∗ Sent c j)
      ⊢ iprop((iprop(Ow c n ∗ xP c S (xF m c) ∗ semVal (kcell c (sK j)) 0) -∗ WP c (k ⟨⟩) Q)
          -∗ WP c (.op (.waitDma2 sS srcw dstw hsrc hdst) k) Q) := by
  have h := wp_waitS m K c j n hS (hsrc := hsrc) (hdst := hdst) hN hlv (Q := Q) (k := k)
  unfold sendPay at h; rw [if_pos hj] at h
  subst hSx; exact h
theorem wp_waitSA (c : Dev nD) (j : Fin 11) (hj : ¬ j.val < 8) (n : ℕ) {q : PosShare TreeShare} (hq : q = pShare (jSlot j)) {sS : DmaSem sig} (hS : csem (sK j) = .dma sS)
    {sp' sp : Space} {s' s : Shape} {e' e : EltTy} {κ' : Kind}
    {srcw : Memref sig .tc sp' s' e'} {dstw : Memref sig κ' sp s e} {hsrc : srcw.view.WordExact} {hdst : dstw.view.WordExact}
    (hN : dstw.view.dmaCredit = amt j) (hlv : ((debts 0).drop n).all fun p => decide (0 < lvK p.2.castSucc))
    {α : Type} {Q : α → sProp 𝕄} {k : PUnit → Prog (TpuEff nD τ sig (Elt F) Λ₀ .tc) α} :
    iprop(Recs m K ∗ Ow c n ∗ Sent c j)
      ⊢ iprop((iprop(Ow c n ∗ pP c pBox q (pF m c) ∗ semVal (kcell c (sK j)) 0) -∗ WP c (k ⟨⟩) Q)
          -∗ WP c (.op (.waitDma2 sS srcw dstw hsrc hdst) k) Q) := by
  have h := wp_waitS m K c j n hS (hsrc := hsrc) (hdst := hdst) hN hlv (Q := Q) (k := k)
  unfold sendPay at h; rw [if_neg hj] at h
  subst hq; exact h
theorem wp_waitRX (c : Dev nD) (j : Fin 11) (hj : j.val < 8) (n : ℕ) {S : Finset S3x1024x1024.Idx} (hSx : S = rBox j) {sR : DmaSem sig} (hS : csem (rK j) = .dma sR)
    {sp' sp : Space} {s' s : Shape} {e' e : EltTy} {κ' : Kind}
    {srcw : Memref sig .tc sp' s' e'} {dstw : Memref sig κ' sp s e} {hsrc : srcw.view.WordExact} {hdst : dstw.view.WordExact}
    (hN : dstw.view.dmaCredit = amt j) (hlv : ((debts 0).drop n).all fun p => decide (lvK (rK j).castSucc < lvK p.2.castSucc))
    {α : Type} {Q : α → sProp 𝕄} {k : PUnit → Prog (TpuEff nD τ sig (Elt F) Λ₀ .tc) α} :
    iprop(Recs m K ∗ Ow c n ∗ Exp c j)
      ⊢ iprop((iprop(Ow c n ∗ rP c S (rF m c) ∗ semVal (kcell c (rK j)) 0) -∗ WP c (k ⟨⟩) Q)
          -∗ WP c (.op (.waitDma2 sR srcw dstw hsrc hdst) k) Q) := by
  have h := wp_waitR m K c j n hS (hsrc := hsrc) (hdst := hdst) hN hlv (Q := Q) (k := k)
  unfold recvPay at h; rw [if_pos hj] at h
  subst hSx; exact h
theorem wp_waitRA (c : Dev nD) (j : Fin 11) (hj : ¬ j.val < 8) (n : ℕ) {s₀ : Fin 3} (hs : s₀ = jSlot j) {sR : DmaSem sig} (hS : csem (rK j) = .dma sR)
    {sp' sp : Space} {s' s : Shape} {e' e : EltTy} {κ' : Kind}
    {srcw : Memref sig .tc sp' s' e'} {dstw : Memref sig κ' sp s e} {hsrc : srcw.view.WordExact} {hdst : dstw.view.WordExact}
    (hN : dstw.view.dmaCredit = amt j) (hlv : ((debts 0).drop n).all fun p => decide (lvK (rK j).castSucc < lvK p.2.castSucc))
    {α : Type} {Q : α → sProp 𝕄} {k : PUnit → Prog (TpuEff nD τ sig (Elt F) Λ₀ .tc) α} :
    iprop(Recs m K ∗ Ow c n ∗ Exp c j)
      ⊢ iprop((iprop(Ow c n ∗ qP c (qBox s₀) (qF m c) ∗ semVal (kcell c (rK j)) 0) -∗ WP c (k ⟨⟩) Q)
          -∗ WP c (.op (.waitDma2 sR srcw dstw hsrc hdst) k) Q) := by
  have h := wp_waitR m K c j n hS (hsrc := hsrc) (hdst := hdst) hN hlv (Q := Q) (k := k)
  unfold recvPay at h; rw [if_neg hj] at h
  subst hs; exact h

/-! ## What the barrier hands over -/

/-- The right to land in the destination of transfer `j`. -/
def Land (c : Dev nD) (j : Fin 11) : sProp 𝕄 := iprop(∃ f, rP (F := F) (dst (jSlot j) c) (rBox j) f)
def LandA (c : Dev nD) (j : Fin 11) : sProp 𝕄 := iprop(∃ f, qP (F := F) (dst (jSlot j) c) (qBox (jSlot j)) f)

theorem barPay0 (c : Dev nD) : barPay (F := F) c 0 ⊢ iprop(Land (F := F) c 0 ∗ Land (F := F) c 1 ∗ LandA (F := F) c 8) :=
  (sep_mono_left (split2_ex (F := F) (ℓ := rM.view.loc (dst 0 c : Thread nD τ)) (rhalf_mem 0) (rhalf_dis 0))).trans sep_assoc.1
theorem barPay1 (c : Dev nD) : barPay (F := F) c 1 ⊢ iprop(Land (F := F) c 6 ∗ Land (F := F) c 7 ∗ LandA (F := F) c 9) :=
  (sep_mono_left (split2_ex (F := F) (ℓ := rM.view.loc (dst 1 c : Thread nD τ)) (rhalf_mem 1) (rhalf_dis 1))).trans sep_assoc.1
theorem barPay2 (c : Dev nD) : barPay (F := F) c 2 ⊢ iprop(Land (F := F) c 2 ∗ Land (F := F) c 3 ∗ Land (F := F) c 4 ∗ Land (F := F) c 5 ∗ LandA (F := F) c 10) :=
  (sep_mono_left (split4_ex (F := F) (ℓ := rM.view.loc (dst 2 c : Thread nD τ)) rquart_mem rquart_dis)).trans
    (sep_assoc.1.trans (sep_mono_right (sep_assoc.1.trans (sep_mono_right sep_assoc.1))))

/-- Issuing a row transfer, its place among the debts and its rows in another form. -/
theorem wp_sendX2 (c n : Dev nD) (j : Fin 11) (hj : j.val < 8) (hn : n = dst (jSlot j) c) {i i' : ℕ} (hi : i = jPos j) (hi' : i' = jPos j + 1)
    {Sx : Finset S4096x1024.Idx} (hSx : Sx = xBox c j) {H W : ℕ} (hH : H = jH j) (hW : W = jW j)
    {offS : Fin 2 → ℕ} {offD : Fin 3 → ℕ} (hoS : offS = ![row c (jRot j) + jRow j, jCol j]) (hoD : offD = ![(jSlot j).val, jRow j, jCol j])
    {inbS : ∀ a, offS a + (⟨2, ![H, W]⟩ : Shape).size a ≤ S4096x1024.size a} {inbD : ∀ a, offD a + (⟨3, ![1, H, W]⟩ : Shape).size a ≤ S3x1024x1024.size a}
    {hs : ∀ a, (Rect.unit (s := S4096x1024) offS (⟨2, ![H, W]⟩ : Shape).size inbS).stride a = 1}
    {hd : ∀ a, (Rect.unit (s := S3x1024x1024) offD (⟨3, ![1, H, W]⟩ : Shape).size inbD).stride a = 1}
    {hsq : (⟨3, ![1, H, W]⟩ : Shape).Squeezes ⟨2, ![H, W]⟩}
    {sS sR : DmaSem sig} (hS : csem (sK j) = .dma sS) (hR : csem (rK j) = .dma sR)
    (hN : ((rM.slice (Rect.unit (s := S3x1024x1024) offD (⟨3, ![1, H, W]⟩ : Shape).size inbD) hd).squeeze ⟨2, ![H, W]⟩ hsq).view.amount (.dma sR) = amt j)
    {hsc : ((rM.slice (Rect.unit (s := S3x1024x1024) offD (⟨3, ![1, H, W]⟩ : Shape).size inbD) hd).squeeze ⟨2, ![H, W]⟩ hsq).view.ref.isScScratch = false}
    {hsrc : (xM.slice (Rect.unit (s := S4096x1024) offS (⟨2, ![H, W]⟩ : Shape).size inbS) hs).view.WordExact}
    {hdst : ((rM.slice (Rect.unit (s := S3x1024x1024) offD (⟨3, ![1, H, W]⟩ : Shape).size inbD) hd).squeeze ⟨2, ![H, W]⟩ hsq).view.WordExact}
    {hsem : DmaTarget.Typed .vmem (.dma sR) (.remote (Dev.tc n : Thread nD τ)
      ((rM.slice (Rect.unit (s := S3x1024x1024) offD (⟨3, ![1, H, W]⟩ : Shape).size inbD) hd).squeeze ⟨2, ![H, W]⟩ hsq) (.dma sS) hsc)}
    {α : Type} {Q : α → sProp 𝕄} {k : PUnit → Prog (TpuEff nD τ sig (Elt F) Λ₀ .tc) α} :
    iprop(Recs m K ∗ xP c Sx (xF m c) ∗ Land (F := F) c j ∗ Ow c i ∗ Tok c j)
      ⊢ iprop((iprop(Sent c j ∗ Ow c i') -∗ WP c (k ⟨⟩) Q)
          -∗ WP c (.op (.enqueueDma (xM.slice (Rect.unit (s := S4096x1024) offS (⟨2, ![H, W]⟩ : Shape).size inbS) hs)
            (.remote (Dev.tc n : Thread nD τ) ((rM.slice (Rect.unit (s := S3x1024x1024) offD (⟨3, ![1, H, W]⟩ : Shape).size inbD) hd).squeeze ⟨2, ![H, W]⟩ hsq) (.dma sS) hsc)
            (.dma sR) hsrc hdst hsem) k) Q) := by
  subst hi hi' hSx
  exact wp_sendX m K c n j hj hn hH hW hoS hoD hS hR hN

/-- Issuing a scalar transfer likewise. -/
theorem wp_sendA2 (c n : Dev nD) (j : Fin 11) (hj : ¬ j.val < 8) (hn : n = dst (jSlot j) c) {i i' : ℕ} (hi : i = jPos j) (hi' : i' = jPos j + 1)
    {q : PosShare TreeShare} (hq : q = pShare (jSlot j))
    {offD : Fin 3 → ℕ} (hoD : offD = ![(jSlot j).val, 0, 0])
    {inbS : ∀ a, (![0, 0] : Fin 2 → ℕ) a + S1x128.size a ≤ S2x128.size a} {inbD : ∀ a, offD a + S1x1x128.size a ≤ S3x2x128.size a}
    {hs : ∀ a, (Rect.unit (s := S2x128) ![0, 0] S1x128.size inbS).stride a = 1}
    {hd : ∀ a, (Rect.unit (s := S3x2x128) offD S1x1x128.size inbD).stride a = 1}
    {hsq : S1x1x128.Squeezes S1x128}
    {sS sR : DmaSem sig} (hS : csem (sK j) = .dma sS) (hR : csem (rK j) = .dma sR)
    (hN : ((qM.slice (Rect.unit (s := S3x2x128) offD S1x1x128.size inbD) hd).squeeze S1x128 hsq).view.amount (.dma sR) = amt j)
    {hsc : ((qM.slice (Rect.unit (s := S3x2x128) offD S1x1x128.size inbD) hd).squeeze S1x128 hsq).view.ref.isScScratch = false}
    {hsrc : (pM.slice (Rect.unit (s := S2x128) ![0, 0] S1x128.size inbS) hs).view.WordExact}
    {hdst : ((qM.slice (Rect.unit (s := S3x2x128) offD S1x1x128.size inbD) hd).squeeze S1x128 hsq).view.WordExact}
    {hsem : DmaTarget.Typed .vmem (.dma sR) (.remote (Dev.tc n : Thread nD τ)
      ((qM.slice (Rect.unit (s := S3x2x128) offD S1x1x128.size inbD) hd).squeeze S1x128 hsq) (.dma sS) hsc)}
    {α : Type} {Q : α → sProp 𝕄} {k : PUnit → Prog (TpuEff nD τ sig (Elt F) Λ₀ .tc) α} :
    iprop(Recs m K ∗ pP c pBox q (pF m c) ∗ LandA (F := F) c j ∗ Ow c i ∗ Tok c j)
      ⊢ iprop((iprop(Sent c j ∗ Ow c i') -∗ WP c (k ⟨⟩) Q)
          -∗ WP c (.op (.enqueueDma (pM.slice (Rect.unit (s := S2x128) ![0, 0] S1x128.size inbS) hs)
            (.remote (Dev.tc n : Thread nD τ) ((qM.slice (Rect.unit (s := S3x2x128) offD S1x1x128.size inbD) hd).squeeze S1x128 hsq) (.dma sS) hsc)
            (.dma sR) hsrc hdst hsem) k) Q) := by
  subst hi hi' hq
  exact wp_sendA m K c n j hj hn hoD hS hR hN

/-- The rows to the diagonal device: their two halves as stored, as the four quarters sent. -/
theorem to_quarters (c : Dev nD) :
    iprop(xP c (bx2 (row c 2) 1024 0 512) (xF m c) ∗ xP c (bx2 (row c 2) 1024 512 512) (xF m c))
      ⊢ iprop(xP c (bx2 (row c 2 + 0) 256 0 1024) (xF m c) ∗ xP c (bx2 (row c 2 + 256) 256 0 1024) (xF m c)
        ∗ xP c (bx2 (row c 2 + 512) 256 0 1024) (xF m c) ∗ xP c (bx2 (row c 2 + 768) 256 0 1024) (xF m c)) :=
  (split2 (F := F) (ℓ := xM.view.loc (c : Thread nD τ)) (xcols_mem (row c 2) 1024) (xcols_dis (row c 2) 1024)).2.trans (split4 (F := F) (ℓ := xM.view.loc (c : Thread nD τ)) (xquart_mem (row c 2)) (xquart_dis (row c 2))).1

/-- The scalar row at the three shares sent. -/
theorem to_shares (c : Dev nD) : pP c pBox fullShare (pF m c)
    ⊣⊢ iprop(pP c pBox fullShare.left (pF m c) ∗ pP c pBox fullShare.right.left (pF m c) ∗ pP c pBox fullShare.right.right (pF m c)) := by
  have h1 : (pP c pBox fullShare (pF m c) : sProp 𝕄) ⊣⊢ iprop(pP c pBox fullShare.left (pF m c) ∗ pP c pBox fullShare.right (pF m c)) :=
    pointsTo_share (PosShare.mem_left_op_right _)
  have h2 : (pP c pBox fullShare.right (pF m c) : sProp 𝕄) ⊣⊢ iprop(pP c pBox fullShare.right.left (pF m c) ∗ pP c pBox fullShare.right.right (pF m c)) :=
    pointsTo_share (PosShare.mem_left_op_right _)
  exact ⟨h1.1.trans (sep_mono_right h2.1), (sep_mono_right h2.2).trans h1.2⟩

end Cert.KernelIdeal.Mesh

end
-- ==== Proof.KernelIdeal.PartsA.lean ====
/-
The parts 2 to 5 of the kernel's body: what each takes and what it leaves.
-/
module

public import proofs.«01_k».proof.Proof.KernelIdeal.Steps

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

theorem part2 (c : Dev nD) (v13 v24 v35 : BitVec 32) {α : Type} {Q : α → sProp 𝕄} {k : PUnit → Prog (TpuEff nD τ sig (Elt F) Λ₀ .tc) α} :
    iprop(Recs m K ∗ Ow c 0 ∗ aP m c (cpQ 0) Finset.univ ∗ aP m c (cpQ 1) Finset.univ ∗ atPos ER (kcell c 0) 0 ∅ 0 ∗ cred (tallyAt (kcell c 0) () 3) ∗ dutyTok ER (kcell (src 0 c) 0) 0 0 ∗ dutyTok ER (kcell (src 1 c) 0) 0 1 ∗ dutyTok ER (kcell (src 2 c) 0) 0 2 ∗ (∃ f, gP (F := F) c (slab 0) f) ∗ (∃ f, gP (F := F) c (slab 1) f) ∗ (∃ f, qP (F := F) c (qBox 0) f) ∗ (∃ f, qP (F := F) c (qBox 1) f) ∗ (∃ f, qP (F := F) c (qBox 2) f) ∗ (∃ f, rP (F := F) c (slotBox 0) f) ∗ (∃ f, rP (F := F) c (slotBox 1) f) ∗ (∃ f, rP (F := F) c (slotBox 2) f) ∗ semVal ((c : Thread nD τ), .dma (cpS 0)) 0 ∗ semVal ((c : Thread nD τ), .dma (cpS 1)) 0)
      ⊢ iprop((iprop(CpA m c 1 (row c 3) 0 ∗ Ow c 3 ∗ StA m c 0 (row c 1) 0 ∗ aP m c (cpQ 0) Finset.univ ∗ semVal (kcell c 0) 0 ∗ Land (F := F) c 0 ∗ Land (F := F) c 1 ∗ LandA (F := F) c 10 ∗ Land (F := F) c 2 ∗ Land (F := F) c 3 ∗ Land (F := F) c 4 ∗ Land (F := F) c 5 ∗ Land (F := F) c 6 ∗ Land (F := F) c 7 ∗ LandA (F := F) c 8 ∗ LandA (F := F) c 9 ∗ semVal ((c : Thread nD τ), .dma (cpS 0)) 0) -∗ WP c (k ⟨⟩) Q)
          -∗ WP c (k0_part2 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v13 v24 v35 >>= k) Q) := by
  rw [k0_part2_eq_skeleton]; unfold k0_part2_skel
  simp only [semSignalWord, semWaitWord, Prog.lift, Prog.bind_op, Prog.bind_ret, Prog.pure_eq_ret]
  iintro ⟨#HR, HO, Ha0, Ha1, Hab, Hcb, Hd0, Hd1, Hd2, Hg0, Hg1, Hq0, Hq1, Hq2, Hr0, Hr1, Hr2, Hv0, Hv1⟩ Hk
  iapply (wp_bar m K c (⟨k0_dev1 c, k0_dev1_lt c⟩ : Dev nD) 0 (dev1 c)) $$ [$HR $HO $Hd1 $Hr1 $Hq1]
  iintro HO
  iapply (wp_bar m K c (⟨k0_dev2 c, k0_dev2_lt c⟩ : Dev nD) 1 (dev2 c)) $$ [$HR $HO $Hd0 $Hr0 $Hq0]
  iintro HO
  iapply (wp_bar m K c (⟨k0_dev3 c, k0_dev3_lt c⟩ : Dev nD) 2 (dev3 c)) $$ [$HR $HO $Hd2 $Hr2 $Hq2]
  iintro HO
  iapply (wp_cpA m c 0 (row c 1) 0 rfl (off1_1 c) rfl) $$ [$Ha0 $Hg0 $Hv0]
  iintro HC0
  iapply (wp_cpA m c 1 (row c 3) 0 rfl (off1_3 c) rfl) $$ [$Ha1 $Hg1 $Hv1]
  iintro HC1
  iapply (wp_barWait m K c) $$ [$HR $HO $Hcb $Hab]
  iintro ⟨HO, Hbv, HB0, HB1, HB2⟩
  ihave HB0 := (barPay0 c) $$ HB0
  ihave HB1 := (barPay1 c) $$ HB1
  ihave HB2 := (barPay2 c) $$ HB2
  icases HB0 with ⟨Hl0, Hl1, Hl8⟩
  icases HB1 with ⟨Hl6, Hl7, Hl9⟩
  icases HB2 with ⟨Hl2, Hl3, Hl4, Hl5, Hl10⟩
  iapply (wp_waitA m K c 0 (row c 1) 0 3 rfl rfl (by decide)) $$ [$HR $HO $HC0]
  iintro ⟨HO, HS0, Ha0, Hv0⟩
  iapply Hk
  iframe HC1 HO HS0 Ha0 Hbv Hl0 Hl1 Hl10 Hl2 Hl3 Hl4 Hl5 Hl6 Hl7 Hl8 Hl9 Hv0

theorem part3 (c : Dev nD) (v13 : BitVec 32) {α : Type} {Q : α → sProp 𝕄} {k : PUnit → Prog (TpuEff nD τ sig (Elt F) Λ₀ .tc) α} :
    iprop(Recs m K ∗ CpA m c 1 (row c 3) 0 ∗ Ow c 3 ∗ StA m c 0 (row c 1) 0 ∗ aP m c (cpQ 0) Finset.univ ∗ Land (F := F) c 0 ∗ Tok c 0 ∗ semVal ((c : Thread nD τ), .dma (cpS 0)) 0 ∗ (∃ f, xP (F := F) c (bx2 (row c 1) 1024 0 512) f))
      ⊢ iprop((iprop(CpA m c 0 (row c 1) 512 ∗ Ow c 4 ∗ StA m c 1 (row c 3) 0 ∗ aP m c (cpQ 1) Finset.univ ∗ Sent c 0 ∗ semVal ((c : Thread nD τ), .dma (cpS 1)) 0) -∗ WP c (k ⟨⟩) Q)
          -∗ WP c (k0_part3 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v13 >>= k) Q) := by
  rw [k0_part3_eq_skeleton]; unfold k0_part3_skel
  simp only [semSignalWord, semWaitWord, Prog.lift, Prog.bind_op, Prog.bind_ret, Prog.pure_eq_ret]
  iintro ⟨#HR, HC1, HO, HS0, Ha0, Hl0, Ht0, Hv0, Hx1_0⟩ Hk
  iapply (wp_loadA m c 0 (row c 1) 0 rfl) $$ HS0
  iintro %w %hw Hg0
  iapply (wp_load_any c (M := xM) (r := Rect.unit (s := S4096x1024) (k0_off2 c 1#32) S1024x512.size (k0_off2_inb c 0)) (S := bx2 (row c 1) 1024 0 512) (acc_eq cc0_scratch0 (off2_1 c)).subset) $$ Hx1_0
  iintro %_ Hx1_0
  iapply (wp_storeA m c (row c 1) 0 (off2_1 c) hw (show k0_pay2 w = rndA w from rfl)) $$ Hx1_0
  iintro Hx1_0
  iapply (wp_cpA m c 0 (row c 1) 512 rfl (off3_1 c) rfl) $$ [$Ha0 $Hg0 $Hv0]
  iintro HC0
  iapply (wp_sendX2 m K c (⟨k0_dev4 c, k0_dev4_lt c⟩ : Dev nD) 0 (by decide) (dev4 c) (i := 3) (i' := 4) rfl rfl rfl (H := 1024) (W := 512) rfl rfl (off1_1 c) rfl rfl rfl rfl) $$ [$HR $Hx1_0 $Hl0 $HO $Ht0]
  iintro ⟨Hs0, HO⟩
  iapply (wp_waitA m K c 1 (row c 3) 0 4 rfl rfl (by decide)) $$ [$HR $HO $HC1]
  iintro ⟨HO, HS1, Ha1, Hv1⟩
  iapply Hk
  iframe HC0 HO HS1 Ha1 Hs0 Hv1

theorem part4 (c : Dev nD) (v24 : BitVec 32) {α : Type} {Q : α → sProp 𝕄} {k : FVec F S1024x512 .f32 → Prog (TpuEff nD τ sig (Elt F) Λ₀ .tc) α} :
    iprop(Recs m K ∗ CpA m c 0 (row c 1) 512 ∗ Ow c 4 ∗ StA m c 1 (row c 3) 0 ∗ aP m c (cpQ 1) Finset.univ ∗ Land (F := F) c 6 ∗ Tok c 6 ∗ semVal ((c : Thread nD τ), .dma (cpS 1)) 0 ∗ (∃ f, xP (F := F) c (bx2 (row c 3) 1024 0 512) f))
      ⊢ iprop((∀ w2 : Vec F S1x1024x512 .f32, ⌜IsA m c (row c 1) 512 w2⌝ -∗ iprop(CpA m c 1 (row c 3) 512 ∗ Ow c 5 ∗ aP m c (cpQ 0) Finset.univ ∗ (∃ f, gP (F := F) c (slab 0) f) ∗ Sent c 6 ∗ semVal ((c : Thread nD τ), .dma (cpS 0)) 0) -∗ WP c (k (k0_pay4 w2)) Q)
          -∗ WP c (k0_part4 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v24 >>= k) Q) := by
  rw [k0_part4_eq_skeleton]; unfold k0_part4_skel
  simp only [semSignalWord, semWaitWord, Prog.lift, Prog.bind_op, Prog.bind_ret, Prog.pure_eq_ret]
  iintro ⟨#HR, HC0, HO, HS1, Ha1, Hl6, Ht6, Hv1, Hx3_0⟩ Hk
  iapply (wp_loadA m c 1 (row c 3) 0 rfl) $$ HS1
  iintro %w %hw Hg1
  iapply (wp_load_any c (M := xM) (r := Rect.unit (s := S4096x1024) (k0_off2 c 3#32) S1024x512.size (k0_off2_inb c 2)) (S := bx2 (row c 3) 1024 0 512) (acc_eq cc0_scratch0 (off2_3 c)).subset) $$ Hx3_0
  iintro %_ Hx3_0
  iapply (wp_storeA m c (row c 3) 0 (off2_3 c) hw (show k0_pay3 w = rndA w from rfl)) $$ Hx3_0
  iintro Hx3_0
  iapply (wp_cpA m c 1 (row c 3) 512 rfl (off3_3 c) rfl) $$ [$Ha1 $Hg1 $Hv1]
  iintro HC1
  iapply (wp_sendX2 m K c (⟨k0_dev5 c, k0_dev5_lt c⟩ : Dev nD) 6 (by decide) (dev5 c) (i := 4) (i' := 5) rfl rfl rfl (H := 1024) (W := 512) rfl rfl (off1_3 c) rfl rfl rfl rfl) $$ [$HR $Hx3_0 $Hl6 $HO $Ht6]
  iintro ⟨Hs6, HO⟩
  iapply (wp_waitA m K c 0 (row c 1) 512 5 rfl rfl (by decide)) $$ [$HR $HO $HC0]
  iintro ⟨HO, HS0, Ha0, Hv0⟩
  iapply (wp_loadA m c 0 (row c 1) 512 rfl) $$ HS0
  iintro %w2 %hw2 Hg0
  iapply Hk $$ %w2 [] [-]
  · ipureintro; exact hw2
  iframe HC1 HO Ha0 Hg0 Hs6 Hv0

theorem part5 (c : Dev nD) (v13 v35 : BitVec 32) (w : Vec F S1x1024x512 .f32) (hw : IsA m c (row c 1) 512 w) {α : Type} {Q : α → sProp 𝕄} {k : (Σ' (_ : FVec F S1024x512 .bf16), BitVec 32) → Prog (TpuEff nD τ sig (Elt F) Λ₀ .tc) α} :
    iprop(Recs m K ∗ CpA m c 1 (row c 3) 512 ∗ Ow c 5 ∗ aP m c (cpQ 0) Finset.univ ∗ (∃ f, gP (F := F) c (slab 0) f) ∗ Land (F := F) c 1 ∗ Tok c 1 ∗ semVal ((c : Thread nD τ), .dma (cpS 0)) 0 ∗ (∃ f, xP (F := F) c (bx2 (row c 1) 1024 512 512) f))
      ⊢ iprop((∀ w3 : Vec F S1x1024x512 .f32, ⌜IsA m c (row c 3) 512 w3⌝ -∗ iprop(CpA m c 0 (row c 2) 0 ∗ Ow c 6 ∗ aP m c (cpQ 1) Finset.univ ∗ (∃ f, gP (F := F) c (slab 1) f) ∗ Sent c 1 ∗ semVal ((c : Thread nD τ), .dma (cpS 1)) 0) -∗ WP c (k ⟨k0_pay6 w3, 1024#32⟩) Q)
          -∗ WP c (k0_part5 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v13 v35 (k0_pay4 w) >>= k) Q) := by
  rw [k0_part5_eq_skeleton]; unfold k0_part5_skel
  simp only [semSignalWord, semWaitWord, Prog.lift, Prog.bind_op, Prog.bind_ret, Prog.pure_eq_ret]
  iintro ⟨#HR, HC1, HO, Ha0, Hg0, Hl1, Ht1, Hv0, Hx1_512⟩ Hk
  iapply (wp_load_any c (M := xM) (r := Rect.unit (s := S4096x1024) (k0_off4 c 1#32) S1024x512.size (k0_off4_inb c 0)) (S := bx2 (row c 1) 1024 512 512) (acc_eq cc0_scratch0 (off4_1 c)).subset) $$ Hx1_512
  iintro %_ Hx1_512
  iapply (wp_storeA m c (row c 1) 512 (off4_1 c) hw (show k0_pay5 (k0_pay4 w) = rndA w from rfl)) $$ Hx1_512
  iintro Hx1_512
  iapply (wp_cpA m c 0 (row c 2) 0 rfl (off1_2 c) rfl) $$ [$Ha0 $Hg0 $Hv0]
  iintro HC0
  iapply (wp_sendX2 m K c (⟨k0_dev6 c, k0_dev6_lt c⟩ : Dev nD) 1 (by decide) (dev6 c) (i := 5) (i' := 6) rfl rfl rfl (H := 1024) (W := 512) rfl rfl (off3_1 c) rfl rfl rfl rfl) $$ [$HR $Hx1_512 $Hl1 $HO $Ht1]
  iintro ⟨Hs1, HO⟩
  iapply (wp_waitA m K c 1 (row c 3) 512 6 rfl rfl (by decide)) $$ [$HR $HO $HC1]
  iintro ⟨HO, HS1, Ha1, Hv1⟩
  iapply (wp_loadA m c 1 (row c 3) 512 rfl) $$ HS1
  iintro %w3 %hw3 Hg1
  iapply Hk $$ %w3 [] [-]
  · ipureintro; exact hw3
  iframe HC0 HO Ha1 Hg1 Hs1 Hv1

end Cert.KernelIdeal.Mesh

end
-- ==== Proof.KernelIdeal.PartsB.lean ====
/-
The parts 6 to 9 of the kernel's body: what each takes and what it leaves.
-/
module

public import proofs.«01_k».proof.Proof.KernelIdeal.Steps

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

theorem part6 (c : Dev nD) (v24 v35 v0 : BitVec 32) (w : Vec F S1x1024x512 .f32) (hw : IsA m c (row c 3) 512 w) {α : Type} {Q : α → sProp 𝕄} {k : FVec F S1024x512 .bf16 → Prog (TpuEff nD τ sig (Elt F) Λ₀ .tc) α} :
    iprop(Recs m K ∗ CpA m c 0 (row c 2) 0 ∗ Ow c 6 ∗ aP m c (cpQ 1) Finset.univ ∗ (∃ f, gP (F := F) c (slab 1) f) ∗ Land (F := F) c 7 ∗ Tok c 7 ∗ semVal ((c : Thread nD τ), .dma (cpS 1)) 0 ∗ (∃ f, xP (F := F) c (bx2 (row c 3) 1024 512 512) f))
      ⊢ iprop((∀ w4 : Vec F S1x1024x512 .f32, ⌜IsA m c (row c 2) 0 w4⌝ -∗ iprop(CpA m c 1 (row c 2) 512 ∗ Ow c 7 ∗ aP m c (cpQ 0) Finset.univ ∗ (∃ f, gP (F := F) c (slab 0) f) ∗ Sent c 7 ∗ semVal ((c : Thread nD τ), .dma (cpS 0)) 0) -∗ WP c (k (k0_pay8 w4)) Q)
          -∗ WP c (k0_part6 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v24 v35 (k0_pay6 w) v0 >>= k) Q) := by
  rw [k0_part6_eq_skeleton]; unfold k0_part6_skel
  simp only [semSignalWord, semWaitWord, Prog.lift, Prog.bind_op, Prog.bind_ret, Prog.pure_eq_ret]
  iintro ⟨#HR, HC0, HO, Ha1, Hg1, Hl7, Ht7, Hv1, Hx3_512⟩ Hk
  iapply (wp_load_any c (M := xM) (r := Rect.unit (s := S4096x1024) (k0_off4 c 3#32) S1024x512.size (k0_off4_inb c 2)) (S := bx2 (row c 3) 1024 512 512) (acc_eq cc0_scratch0 (off4_3 c)).subset) $$ Hx3_512
  iintro %_ Hx3_512
  iapply (wp_storeA m c (row c 3) 512 (off4_3 c) hw (show k0_pay7 (k0_pay6 w) = rndA w from rfl)) $$ Hx3_512
  iintro Hx3_512
  iapply (wp_cpA m c 1 (row c 2) 512 rfl (off3_2 c) rfl) $$ [$Ha1 $Hg1 $Hv1]
  iintro HC1
  iapply (wp_sendX2 m K c (⟨k0_dev7 c, k0_dev7_lt c⟩ : Dev nD) 7 (by decide) (dev7 c) (i := 6) (i' := 7) rfl rfl rfl (H := 1024) (W := 512) rfl rfl (off3_3 c) rfl rfl rfl rfl) $$ [$HR $Hx3_512 $Hl7 $HO $Ht7]
  iintro ⟨Hs7, HO⟩
  iapply (wp_waitA m K c 0 (row c 2) 0 7 rfl rfl (by decide)) $$ [$HR $HO $HC0]
  iintro ⟨HO, HS0, Ha0, Hv0⟩
  iapply (wp_loadA m c 0 (row c 2) 0 rfl) $$ HS0
  iintro %w4 %hw4 Hg0
  iapply Hk $$ %w4 [] [-]
  · ipureintro; exact hw4
  iframe HC1 HO Ha0 Hg0 Hs7 Hv0

theorem part7 (c : Dev nD) (v2 v35 : BitVec 32) (w : Vec F S1x1024x512 .f32) (hw : IsA m c (row c 2) 0 w) {α : Type} {Q : α → sProp 𝕄} {k : PUnit → Prog (TpuEff nD τ sig (Elt F) Λ₀ .tc) α} :
    iprop(Recs m K ∗ CpA m c 1 (row c 2) 512 ∗ Ow c 7 ∗ aP m c (cpQ 0) Finset.univ ∗ (∃ f, gP (F := F) c (slab 0) f) ∗ semVal ((c : Thread nD τ), .dma (cpS 0)) 0 ∗ (∃ f, xP (F := F) c (bx2 (row c 2) 1024 0 512) f) ∗ (∃ f, xP (F := F) c (bx2 (row c 2) 1024 512 512) f))
      ⊢ iprop((iprop(CpA m c 0 (row c 0) 0 ∗ CpA m c 1 (row c 0) 512 ∗ Ow c 7 ∗ xP c (bx2 (row c 2) 1024 0 512) (xF m c) ∗ xP c (bx2 (row c 2) 1024 512 512) (xF m c)) -∗ WP c (k ⟨⟩) Q)
          -∗ WP c (k0_part7 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v2 v35 (k0_pay8 w) >>= k) Q) := by
  rw [k0_part7_eq_skeleton]; unfold k0_part7_skel
  simp only [semSignalWord, semWaitWord, Prog.lift, Prog.bind_op, Prog.bind_ret, Prog.pure_eq_ret]
  iintro ⟨#HR, HC1, HO, Ha0, Hg0, Hv0, Hx2_0, Hx2_512⟩ Hk
  iapply (wp_load_any c (M := xM) (r := Rect.unit (s := S4096x1024) (k0_off2 c 2#32) S1024x512.size (k0_off2_inb c 1)) (S := bx2 (row c 2) 1024 0 512) (acc_eq cc0_scratch0 (off2_2 c)).subset) $$ Hx2_0
  iintro %_ Hx2_0
  iapply (wp_storeA m c (row c 2) 0 (off2_2 c) hw (show k0_pay9 (k0_pay8 w) = rndA w from rfl)) $$ Hx2_0
  iintro Hx2_0
  iapply (wp_cpA m c 0 (row c 0) 0 rfl (off5 c) rfl) $$ [$Ha0 $Hg0 $Hv0]
  iintro HC0
  iapply (wp_waitA m K c 1 (row c 2) 512 7 rfl rfl (by decide)) $$ [$HR $HO $HC1]
  iintro ⟨HO, HS1, Ha1, Hv1⟩
  iapply (wp_loadA m c 1 (row c 2) 512 rfl) $$ HS1
  iintro %w2 %hw2 Hg1
  iapply (wp_load_any c (M := xM) (r := Rect.unit (s := S4096x1024) (k0_off4 c 2#32) S1024x512.size (k0_off4_inb c 1)) (S := bx2 (row c 2) 1024 512 512) (acc_eq cc0_scratch0 (off4_2 c)).subset) $$ Hx2_512
  iintro %_ Hx2_512
  iapply (wp_storeA m c (row c 2) 512 (off4_2 c) hw2 (show k0_pay10 w2 = rndA w2 from rfl)) $$ Hx2_512
  iintro Hx2_512
  iapply (wp_cpA m c 1 (row c 0) 512 rfl (off6 c) rfl) $$ [$Ha1 $Hg1 $Hv1]
  iintro HC1
  iapply Hk
  iframe HC0 HC1 HO Hx2_0 Hx2_512

theorem part8 (c : Dev nD) (v35 : BitVec 32) {α : Type} {Q : α → sProp 𝕄} {k : PUnit → Prog (TpuEff nD τ sig (Elt F) Λ₀ .tc) α} :
    iprop(Recs m K ∗ Ow c 7 ∗ Land (F := F) c 2 ∗ Land (F := F) c 3 ∗ Tok c 2 ∗ Tok c 3 ∗ xP c (bx2 (row c 2) 1024 0 512) (xF m c) ∗ xP c (bx2 (row c 2) 1024 512 512) (xF m c))
      ⊢ iprop((iprop(Ow c 9 ∗ Sent c 2 ∗ Sent c 3 ∗ xP c (bx2 (row c 2 + 512) 256 0 1024) (xF m c) ∗ xP c (bx2 (row c 2 + 768) 256 0 1024) (xF m c)) -∗ WP c (k ⟨⟩) Q)
          -∗ WP c (k0_part8 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v35 >>= k) Q) := by
  rw [k0_part8_eq_skeleton]; unfold k0_part8_skel
  simp only [semSignalWord, semWaitWord, Prog.lift, Prog.bind_op, Prog.bind_ret, Prog.pure_eq_ret]
  iintro ⟨#HR, HO, Hl2, Hl3, Ht2, Ht3, Hx2_0, Hx2_512⟩ Hk
  ihave Hxq := (to_quarters m c) $$ [$Hx2_0 $Hx2_512]
  icases Hxq with ⟨Hxq0, Hxq256, Hxq512, Hxq768⟩
  iapply (wp_sendX2 m K c (⟨k0_dev8 c, k0_dev8_lt c⟩ : Dev nD) 2 (by decide) (dev8 c) (i := 7) (i' := 8) rfl rfl rfl (H := 256) (W := 1024) rfl rfl (off7_0 c) rfl rfl rfl rfl) $$ [$HR $Hxq0 $Hl2 $HO $Ht2]
  iintro ⟨Hs2, HO⟩
  iapply (wp_sendX2 m K c (⟨k0_dev9 c, k0_dev9_lt c⟩ : Dev nD) 3 (by decide) (dev9 c) (i := 8) (i' := 9) rfl rfl rfl (H := 256) (W := 1024) rfl rfl (off7_256 c) rfl rfl rfl rfl) $$ [$HR $Hxq256 $Hl3 $HO $Ht3]
  iintro ⟨Hs3, HO⟩
  iapply Hk
  iframe HO Hs2 Hs3 Hxq512 Hxq768

theorem part9 (c : Dev nD) (v2 v35 : BitVec 32) {α : Type} {Q : α → sProp 𝕄} {k : PUnit → Prog (TpuEff nD τ sig (Elt F) Λ₀ .tc) α} :
    iprop(Recs m K ∗ CpA m c 0 (row c 0) 0 ∗ Ow c 9 ∗ Land (F := F) c 4 ∗ Land (F := F) c 5 ∗ Tok c 4 ∗ Tok c 5 ∗ (∃ f, xP (F := F) c (bx2 (row c 0) 1024 0 512) f) ∗ xP c (bx2 (row c 2 + 512) 256 0 1024) (xF m c) ∗ xP c (bx2 (row c 2 + 768) 256 0 1024) (xF m c))
      ⊢ iprop((iprop(Ow c 11 ∗ aP m c (cpQ 0) Finset.univ ∗ (∃ f, gP (F := F) c (slab 0) f) ∗ Sent c 4 ∗ Sent c 5 ∗ semVal ((c : Thread nD τ), .dma (cpS 0)) 0 ∗ xP c (bx2 (row c 0) 1024 0 512) (xF m c)) -∗ WP c (k ⟨⟩) Q)
          -∗ WP c (k0_part9 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v2 v35 >>= k) Q) := by
  rw [k0_part9_eq_skeleton]; unfold k0_part9_skel
  simp only [semSignalWord, semWaitWord, Prog.lift, Prog.bind_op, Prog.bind_ret, Prog.pure_eq_ret]
  iintro ⟨#HR, HC0, HO, Hl4, Hl5, Ht4, Ht5, Hx0_0, Hxq512, Hxq768⟩ Hk
  iapply (wp_sendX2 m K c (⟨k0_dev10 c, k0_dev10_lt c⟩ : Dev nD) 4 (by decide) (dev10 c) (i := 9) (i' := 10) rfl rfl rfl (H := 256) (W := 1024) rfl rfl (off7_512 c) rfl rfl rfl rfl) $$ [$HR $Hxq512 $Hl4 $HO $Ht4]
  iintro ⟨Hs4, HO⟩
  iapply (wp_sendX2 m K c (⟨k0_dev11 c, k0_dev11_lt c⟩ : Dev nD) 5 (by decide) (dev11 c) (i := 10) (i' := 11) rfl rfl rfl (H := 256) (W := 1024) rfl rfl (off7_768 c) rfl rfl rfl rfl) $$ [$HR $Hxq768 $Hl5 $HO $Ht5]
  iintro ⟨Hs5, HO⟩
  iapply (wp_waitA m K c 0 (row c 0) 0 11 rfl rfl (by decide)) $$ [$HR $HO $HC0]
  iintro ⟨HO, HS0, Ha0, Hv0⟩
  iapply (wp_loadA m c 0 (row c 0) 0 rfl) $$ HS0
  iintro %w %hw Hg0
  iapply (wp_load_any c (M := xM) (r := Rect.unit (s := S4096x1024) (k0_off8 c) S1024x512.size (k0_off8_inb c)) (S := bx2 (row c 0) 1024 0 512) (acc_eq cc0_scratch0 (off8 c)).subset) $$ Hx0_0
  iintro %_ Hx0_0
  iapply (wp_storeA m c (row c 0) 0 (off8 c) hw (show k0_pay11 w = rndA w from rfl)) $$ Hx0_0
  iintro Hx0_0
  iapply Hk
  iframe HO Ha0 Hg0 Hs4 Hs5 Hv0 Hx0_0

end Cert.KernelIdeal.Mesh

end
-- ==== Proof.KernelIdeal.PartsC.lean ====
/-
The parts 10 to 12 of the kernel's body: what each takes and what it leaves.
-/
module

public import proofs.«01_k».proof.Proof.KernelIdeal.Steps

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

theorem part10 (c : Dev nD) (v2 v24 : BitVec 32) {α : Type} {Q : α → sProp 𝕄} {k : FVec F S1024x2048 .bf16 → Prog (TpuEff nD τ sig (Elt F) Λ₀ .tc) α} :
    iprop(Recs m K ∗ CpA m c 1 (row c 0) 512 ∗ Ow c 11 ∗ bP m c (cpQ 0) Finset.univ ∗ bP m c (cpQ 1) Finset.univ ∗ (∃ f, gP (F := F) c (slab 0) f) ∗ semVal ((c : Thread nD τ), .dma (cpS 0)) 0 ∗ (∃ f, xP (F := F) c (bx2 (row c 0) 1024 512 512) f))
      ⊢ iprop((∀ w5 : Vec F S1x1024x2048 .f32, ⌜IsB m c (row c 0) 0 w5⌝ -∗ iprop(CpB m c 1 (row c 3) 0 ∗ Ow c 11 ∗ aP m c (cpQ 1) Finset.univ ∗ bP m c (cpQ 0) Finset.univ ∗ (∃ f, gP (F := F) c (slab 0) f) ∗ semVal ((c : Thread nD τ), .dma (cpS 0)) 0 ∗ xP c (bx2 (row c 0) 1024 512 512) (xF m c)) -∗ WP c (k (k0_pay13 w5)) Q)
          -∗ WP c (k0_part10 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v2 v24 >>= k) Q) := by
  rw [k0_part10_eq_skeleton]; unfold k0_part10_skel
  simp only [semSignalWord, semWaitWord, Prog.lift, Prog.bind_op, Prog.bind_ret, Prog.pure_eq_ret]
  iintro ⟨#HR, HC1, HO, Hb0, Hb1, Hg0, Hv0, Hx0_512⟩ Hk
  iapply (wp_cpB m c 0 (row c 0) 0 rfl (off9 c) rfl) $$ [$Hb0 $Hg0 $Hv0]
  iintro HC0
  iapply (wp_waitA m K c 1 (row c 0) 512 11 rfl rfl (by decide)) $$ [$HR $HO $HC1]
  iintro ⟨HO, HS1, Ha1, Hv1⟩
  iapply (wp_loadA m c 1 (row c 0) 512 rfl) $$ HS1
  iintro %w %hw Hg1
  iapply (wp_load_any c (M := xM) (r := Rect.unit (s := S4096x1024) (k0_off10 c) S1024x512.size (k0_off10_inb c)) (S := bx2 (row c 0) 1024 512 512) (acc_eq cc0_scratch0 (off10 c)).subset) $$ Hx0_512
  iintro %_ Hx0_512
  iapply (wp_storeA m c (row c 0) 512 (off10 c) hw (show k0_pay12 w = rndA w from rfl)) $$ Hx0_512
  iintro Hx0_512
  iapply (wp_cpB m c 1 (row c 3) 0 rfl (off11_3 c) rfl) $$ [$Hb1 $Hg1 $Hv1]
  iintro HC1
  iapply (wp_waitB m K c 0 (row c 0) 0 11 rfl rfl (by decide)) $$ [$HR $HO $HC0]
  iintro ⟨HO, HS0, Hb0, Hv0⟩
  iapply (wp_loadB m c 0 (row c 0) 0 rfl) $$ HS0
  iintro %w5 %hw5 Hg0
  iapply Hk $$ %w5 [] [-]
  · ipureintro; exact hw5
  iframe HC1 HO Ha1 Hb0 Hg0 Hv0 Hx0_512

theorem part11 (c : Dev nD) (v2 v13 v24 : BitVec 32) (w : Vec F S1x1024x2048 .f32) (hw : IsB m c (row c 0) 0 w) {α : Type} {Q : α → sProp 𝕄} {k : BitVec 32 → Prog (TpuEff nD τ sig (Elt F) Λ₀ .tc) α} :
    iprop(Recs m K ∗ CpB m c 1 (row c 3) 0 ∗ Ow c 11 ∗ bP m c (cpQ 0) Finset.univ ∗ (∃ f, gP (F := F) c (slab 0) f) ∗ (∃ f, oP (F := F) c Finset.univ f) ∗ semVal ((c : Thread nD τ), .dma (cpS 0)) 0 ∗ (∃ f, wP (F := F) c (bx2 (row c 0) 1024 0 2048) f) ∗ (∃ f, wP (F := F) c (bx2 (row c 3) 1024 0 2048) f) ∗ xP c (bx2 (row c 0) 1024 0 512) (xF m c) ∗ xP c (bx2 (row c 0) 1024 512 512) (xF m c))
      ⊢ iprop((iprop(CpB m c 0 (row c 1) 0 ∗ Ow c 11 ∗ bP m c (cpQ 1) Finset.univ ∗ (∃ f, gP (F := F) c (slab 1) f) ∗ oP c Finset.univ (o0 m c) ∗ semVal ((c : Thread nD τ), .dma (cpS 1)) 0 ∗ wP c (bx2 (row c 0) 1024 0 2048) (wF m c) ∗ wP c (bx2 (row c 3) 1024 0 2048) (wF m c) ∗ xP c (bx2 (row c 0) 1024 0 1024) (xF m c)) -∗ WP c (k 1024#32) Q)
          -∗ WP c (k0_part11 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v2 v13 v24 (k0_pay13 w) >>= k) Q) := by
  rw [k0_part11_eq_skeleton]; unfold k0_part11_skel
  simp only [semSignalWord, semWaitWord, Prog.lift, Prog.bind_op, Prog.bind_ret, Prog.pure_eq_ret]
  iintro ⟨#HR, HC1, HO, Hb0, Hg0, Hout, Hv0, Hw0, Hw3, Hx0_0, Hx0_512⟩ Hk
  iapply (wp_load_any c (M := wM) (r := Rect.unit (s := S4096x2048) (k0_off12 c) S1024x2048.size (k0_off12_inb c)) (S := bx2 (row c 0) 1024 0 2048) (acc_eq cc0_scratch1 (off12 c)).subset) $$ Hw0
  iintro %_ Hw0
  iapply (wp_storeB m c (row c 0) 0 (off12 c) hw (show k0_pay14 (k0_pay13 w) = rndB w from rfl)) $$ Hw0
  iintro Hw0
  iapply (wp_cpB m c 0 (row c 1) 0 rfl (off11_1 c) rfl) $$ [$Hb0 $Hg0 $Hv0]
  iintro HC0
  ihave Hx0 := (split2 (F := F) (ℓ := xM.view.loc (c : Thread nD τ)) (xcols_mem (row c 0) 1024) (xcols_dis (row c 0) 1024)).2 $$ [$Hx0_0 $Hx0_512]
  iapply (wp_load_val c (M := xM) (r := Rect.unit (s := S4096x1024) (k0_off13 c) S1024x1024.size (k0_off13_inb c)) (f := (xF m c)) (S := bx2 (row c 0) 1024 0 1024) (acc_eq cc0_scratch0 (off13 c)).subset (ldx_eq m c)) $$ Hx0
  iintro Hx0
  iapply (wp_load_val c (M := wM) (r := Rect.unit (s := S4096x2048) (k0_off12 c) S1024x2048.size (k0_off12_inb c)) (f := (wF m c)) (S := bx2 (row c 0) 1024 0 2048) (acc_eq cc0_scratch1 (off12 c)).subset (ldw0_eq m c)) $$ Hw0
  iintro Hw0
  iapply (wp_load_any c (M := oM) (r := Rect.unit (s := S1024x2048) ![0, 0] S1024x2048.size inb_S1024x2048_S1024x2048_0_0) (S := Finset.univ) (Finset.subset_univ _)) $$ Hout
  iintro %_ Hout
  iapply (wp_storeO c (show k0_pay15 (ldx m c) (ldw0 m c) = o0 m c from rfl)) $$ Hout
  iintro Hout
  iapply (wp_waitB m K c 1 (row c 3) 0 11 rfl rfl (by decide)) $$ [$HR $HO $HC1]
  iintro ⟨HO, HS1, Hb1, Hv1⟩
  iapply (wp_loadB m c 1 (row c 3) 0 rfl) $$ HS1
  iintro %w2 %hw2 Hg1
  iapply (wp_load_any c (M := wM) (r := Rect.unit (s := S4096x2048) (k0_off14 c 3#32) S1024x2048.size (k0_off14_inb c 2)) (S := bx2 (row c 3) 1024 0 2048) (acc_eq cc0_scratch1 (off14_3 c)).subset) $$ Hw3
  iintro %_ Hw3
  iapply (wp_storeB m c (row c 3) 0 (off14_3 c) hw2 (show k0_pay16 w2 = rndB w2 from rfl)) $$ Hw3
  iintro Hw3
  iapply Hk
  iframe HC0 HO Hb1 Hg1 Hout Hv1 Hw0 Hw3 Hx0

theorem part12 (c : Dev nD) (v13 v24 v35 v0 : BitVec 32) {α : Type} {Q : α → sProp 𝕄} {k : (Σ' (_ : FVec F S1024x2048 .f32), FVec F S1024x2048 .f32) → Prog (TpuEff nD τ sig (Elt F) Λ₀ .tc) α} :
    iprop(Recs m K ∗ Ow c 11 ∗ bP m c (cpQ 1) Finset.univ ∗ Exp c 0 ∗ Exp c 1 ∗ (∃ f, gP (F := F) c (slab 1) f) ∗ oP c Finset.univ (o0 m c) ∗ semVal ((c : Thread nD τ), .dma (cpS 1)) 0 ∗ wP c (bx2 (row c 3) 1024 0 2048) (wF m c))
      ⊢ iprop((iprop(CpB m c 1 (row c 2) 0 ∗ rP c (slotBox 0) (rF m c) ∗ Ow c 11 ∗ oP c Finset.univ (o0 m c) ∗ wP c (bx2 (row c 3) 1024 0 2048) (wF m c) ∗ semVal (kcell c (rK 0)) 0 ∗ semVal (kcell c (rK 1)) 0) -∗ WP c (k ⟨k0_pay17 (o0 m c), k0_pay18 (ldr m c 0) (ldw3 m c)⟩) Q)
          -∗ WP c (k0_part12 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v13 v24 v35 v0 >>= k) Q) := by
  rw [k0_part12_eq_skeleton]; unfold k0_part12_skel
  simp only [semSignalWord, semWaitWord, Prog.lift, Prog.bind_op, Prog.bind_ret, Prog.pure_eq_ret]
  iintro ⟨#HR, HO, Hb1, He0, He1, Hg1, Hout, Hv1, Hw3⟩ Hk
  iapply (wp_cpB m c 1 (row c 2) 0 rfl (off11_2 c) rfl) $$ [$Hb1 $Hg1 $Hv1]
  iintro HC1
  iapply (wp_waitRX m K c 0 (by decide) 11 (S := bx3 0 1 0 1024 0 512) rfl rfl rfl (by decide)) $$ [$HR $HO $He0]
  iintro ⟨HO, HL0, Hzr0⟩
  iapply (wp_waitRX m K c 1 (by decide) 11 (S := bx3 0 1 0 1024 512 512) rfl rfl rfl (by decide)) $$ [$HR $HO $He1]
  iintro ⟨HO, HL1, Hzr1⟩
  iapply (wp_load_val c (M := oM) (r := Rect.unit (s := S1024x2048) ![0, 0] S1024x2048.size inb_S1024x2048_S1024x2048_0_0) (S := Finset.univ) (f := o0 m c) (Finset.subset_univ _) (whole_eq (o0 m c))) $$ Hout
  iintro Hout
  ihave HLs0 := (split2 (F := F) (ℓ := rM.view.loc (c : Thread nD τ)) (rhalf_mem 0) (rhalf_dis 0)).2 $$ [$HL0 $HL1]
  iapply (wp_load_val c (M := rM) (r := Rect.unit (s := S3x1024x1024) ![0, 0, 0] S1x1024x1024.size inb_S3x1024x1024_S1x1024x1024_0_0_0) (f := (rF m c)) (S := slotBox 0) (acc_eq cc0_scratch2 rfl).subset (ldr_eq0 m c)) $$ HLs0
  iintro HLs0
  iapply (wp_load_val c (M := wM) (r := Rect.unit (s := S4096x2048) (k0_off14 c 3#32) S1024x2048.size (k0_off14_inb c 2)) (f := (wF m c)) (S := bx2 (row c 3) 1024 0 2048) (acc_eq cc0_scratch1 (off14_3 c)).subset (ldw3_eq m c)) $$ Hw3
  iintro Hw3
  iapply Hk
  iframe HC1 HLs0 HO Hout Hw3 Hzr0 Hzr1

end Cert.KernelIdeal.Mesh

end
-- ==== Proof.KernelIdeal.PartsD.lean ====
/-
The parts 13 to 16 of the kernel's body: what each takes and what it leaves.
-/
module

public import proofs.«01_k».proof.Proof.KernelIdeal.Steps

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

theorem part13 (c : Dev nD) (v13 v24 : BitVec 32) {α : Type} {Q : α → sProp 𝕄} {k : PUnit → Prog (TpuEff nD τ sig (Elt F) Λ₀ .tc) α} :
    iprop(Recs m K ∗ CpB m c 0 (row c 1) 0 ∗ Ow c 11 ∗ Exp c 6 ∗ oP c Finset.univ (o0 m c) ∗ (∃ f, wP (F := F) c (bx2 (row c 1) 1024 0 2048) f))
      ⊢ iprop((iprop(rP c (bx3 1 1 0 1024 0 512) (rF m c) ∗ Ow c 11 ∗ bP m c (cpQ 0) Finset.univ ∗ (∃ f, gP (F := F) c (slab 0) f) ∗ oP c Finset.univ (o1 m c) ∗ semVal ((c : Thread nD τ), .dma (cpS 0)) 0 ∗ wP c (bx2 (row c 1) 1024 0 2048) (wF m c) ∗ semVal (kcell c (rK 6)) 0) -∗ WP c (k ⟨⟩) Q)
          -∗ WP c (k0_part13 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v13 v24 (k0_pay17 (o0 m c)) (k0_pay18 (ldr m c 0) (ldw3 m c)) >>= k) Q) := by
  rw [k0_part13_eq_skeleton]; unfold k0_part13_skel
  simp only [semSignalWord, semWaitWord, Prog.lift, Prog.bind_op, Prog.bind_ret, Prog.pure_eq_ret]
  iintro ⟨#HR, HC0, HO, He6, Hout, Hw1⟩ Hk
  iapply (wp_load_val c (M := oM) (r := Rect.unit (s := S1024x2048) ![0, 0] S1024x2048.size inb_S1024x2048_S1024x2048_0_0) (S := Finset.univ) (f := o0 m c) (Finset.subset_univ _) (whole_eq (o0 m c))) $$ Hout
  iintro Hout
  ihave Hout := (show oP c Finset.univ (o0 m c) ⊢ iprop(∃ f, oP (F := F) c Finset.univ f) from exists_intro _) $$ Hout
  iapply (wp_storeO c (show k0_pay19 (k0_pay17 (o0 m c)) (k0_pay18 (ldr m c 0) (ldw3 m c)) = o1 m c from rfl)) $$ Hout
  iintro Hout
  iapply (wp_waitB m K c 0 (row c 1) 0 11 rfl rfl (by decide)) $$ [$HR $HO $HC0]
  iintro ⟨HO, HS0, Hb0, Hv0⟩
  iapply (wp_loadB m c 0 (row c 1) 0 rfl) $$ HS0
  iintro %w %hw Hg0
  iapply (wp_load_any c (M := wM) (r := Rect.unit (s := S4096x2048) (k0_off14 c 1#32) S1024x2048.size (k0_off14_inb c 0)) (S := bx2 (row c 1) 1024 0 2048) (acc_eq cc0_scratch1 (off14_1 c)).subset) $$ Hw1
  iintro %_ Hw1
  iapply (wp_storeB m c (row c 1) 0 (off14_1 c) hw (show k0_pay20 w = rndB w from rfl)) $$ Hw1
  iintro Hw1
  iapply (wp_waitRX m K c 6 (by decide) 11 (S := bx3 1 1 0 1024 0 512) rfl rfl rfl (by decide)) $$ [$HR $HO $He6]
  iintro ⟨HO, HL6, Hzr6⟩
  iapply Hk
  iframe HL6 HO Hb0 Hg0 Hout Hv0 Hw1 Hzr6

theorem part14 (c : Dev nD) (v13 v35 : BitVec 32) {α : Type} {Q : α → sProp 𝕄} {k : BitVec 32 → Prog (TpuEff nD τ sig (Elt F) Λ₀ .tc) α} :
    iprop(Recs m K ∗ CpB m c 1 (row c 2) 0 ∗ rP c (bx3 1 1 0 1024 0 512) (rF m c) ∗ Ow c 11 ∗ Exp c 7 ∗ oP c Finset.univ (o1 m c) ∗ wP c (bx2 (row c 1) 1024 0 2048) (wF m c) ∗ (∃ f, wP (F := F) c (bx2 (row c 2) 1024 0 2048) f))
      ⊢ iprop((∀ v : BitVec 32, ⌜True⌝ -∗ iprop(rP c (slotBox 1) (rF m c) ∗ Ow c 11 ∗ bP m c (cpQ 1) Finset.univ ∗ (∃ f, gP (F := F) c (slab 1) f) ∗ oP c Finset.univ (o2 m c) ∗ semVal ((c : Thread nD τ), .dma (cpS 1)) 0 ∗ wP c (bx2 (row c 1) 1024 0 2048) (wF m c) ∗ wP c (bx2 (row c 2) 1024 0 2048) (wF m c) ∗ semVal (kcell c (rK 7)) 0) -∗ WP c (k v) Q)
          -∗ WP c (k0_part14 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v13 v35 >>= k) Q) := by
  rw [k0_part14_eq_skeleton]; unfold k0_part14_skel
  simp only [semSignalWord, semWaitWord, Prog.lift, Prog.bind_op, Prog.bind_ret, Prog.pure_eq_ret]
  iintro ⟨#HR, HC1, HL6, HO, He7, Hout, Hw1, Hw2⟩ Hk
  iapply (wp_waitRX m K c 7 (by decide) 11 (S := bx3 1 1 0 1024 512 512) rfl rfl rfl (by decide)) $$ [$HR $HO $He7]
  iintro ⟨HO, HL7, Hzr7⟩
  iapply (wp_load_val c (M := oM) (r := Rect.unit (s := S1024x2048) ![0, 0] S1024x2048.size inb_S1024x2048_S1024x2048_0_0) (S := Finset.univ) (f := o1 m c) (Finset.subset_univ _) (whole_eq (o1 m c))) $$ Hout
  iintro Hout
  ihave HLs1 := (split2 (F := F) (ℓ := rM.view.loc (c : Thread nD τ)) (rhalf_mem 1) (rhalf_dis 1)).2 $$ [$HL6 $HL7]
  iapply (wp_load_val c (M := rM) (r := Rect.unit (s := S3x1024x1024) ![1, 0, 0] S1x1024x1024.size inb_S3x1024x1024_S1x1024x1024_1_0_0) (f := (rF m c)) (S := slotBox 1) (acc_eq cc0_scratch2 rfl).subset (ldr_eq1 m c)) $$ HLs1
  iintro HLs1
  iapply (wp_load_val c (M := wM) (r := Rect.unit (s := S4096x2048) (k0_off14 c 1#32) S1024x2048.size (k0_off14_inb c 0)) (f := (wF m c)) (S := bx2 (row c 1) 1024 0 2048) (acc_eq cc0_scratch1 (off14_1 c)).subset (ldw1_eq m c)) $$ Hw1
  iintro Hw1
  iapply (wp_load_val c (M := oM) (r := Rect.unit (s := S1024x2048) ![0, 0] S1024x2048.size inb_S1024x2048_S1024x2048_0_0) (S := Finset.univ) (f := o1 m c) (Finset.subset_univ _) (whole_eq (o1 m c))) $$ Hout
  iintro Hout
  ihave Hout := (show oP c Finset.univ (o1 m c) ⊢ iprop(∃ f, oP (F := F) c Finset.univ f) from exists_intro _) $$ Hout
  iapply (wp_storeO c (show k0_pay21 (o1 m c) (ldr m c 1) (ldw1 m c) = o2 m c from rfl)) $$ Hout
  iintro Hout
  iapply (wp_waitB m K c 1 (row c 2) 0 11 rfl rfl (by decide)) $$ [$HR $HO $HC1]
  iintro ⟨HO, HS1, Hb1, Hv1⟩
  iapply (wp_loadB m c 1 (row c 2) 0 rfl) $$ HS1
  iintro %w %hw Hg1
  iapply (wp_load_any c (M := wM) (r := Rect.unit (s := S4096x2048) (k0_off14 c 2#32) S1024x2048.size (k0_off14_inb c 1)) (S := bx2 (row c 2) 1024 0 2048) (acc_eq cc0_scratch1 (off14_2 c)).subset) $$ Hw2
  iintro %_ Hw2
  iapply (wp_storeB m c (row c 2) 0 (off14_2 c) hw (show k0_pay22 w = rndB w from rfl)) $$ Hw2
  iintro Hw2
  iapply Hk $$ %_ [] [-]
  · ipureintro; trivial
  iframe HLs1 HO Hb1 Hg1 Hout Hv1 Hw1 Hw2 Hzr7

theorem part15 (c : Dev nD) (v35 v0 : BitVec 32) {α : Type} {Q : α → sProp 𝕄} {k : (Σ' (_ : F .f32) (_ : FVec F S256x2048 .f32), FVec F S256x1024 .bf16) → Prog (TpuEff nD τ sig (Elt F) Λ₀ .tc) α} :
    iprop(Recs m K ∗ Ow c 11 ∗ Exp c 2 ∗ Exp c 3 ∗ oP c Finset.univ (o2 m c) ∗ wP c (bx2 (row c 2) 1024 0 2048) (wF m c))
      ⊢ iprop((iprop(rP c (rq 0) (rF m c) ∗ rP c (rq 256) (rF m c) ∗ Ow c 11 ∗ oP c (oq 0) (o3 m c) ∗ oP c (oq 1) (o2 m c) ∗ oP c (oq 2) (o2 m c) ∗ oP c (oq 3) (o2 m c) ∗ wP c (bx2 (row c 2) 1024 0 2048) (wF m c) ∗ semVal (kcell c (rK 2)) 0 ∗ semVal (kcell c (rK 3)) 0) -∗ WP c (k ⟨k0_pay24 (qv m c 0), k0_pay25 (ldo m c 1), k0_pay26 (ldq m c 1)⟩) Q)
          -∗ WP c (k0_part15 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v35 v0 >>= k) Q) := by
  rw [k0_part15_eq_skeleton]; unfold k0_part15_skel
  simp only [semSignalWord, semWaitWord, Prog.lift, Prog.bind_op, Prog.bind_ret, Prog.pure_eq_ret]
  iintro ⟨#HR, HO, He2, He3, Hout, Hw2⟩ Hk
  ihave Hout := (split4 (F := F) (ℓ := oM.view.loc (c : Thread nD τ)) oq_mem oq_dis).1 $$ Hout
  icases Hout with ⟨Ho0, Ho1, Ho2, Ho3⟩
  iapply (wp_waitRX m K c 2 (by decide) 11 (S := rq 0) rfl rfl rfl (by decide)) $$ [$HR $HO $He2]
  iintro ⟨HO, HL2, Hzr2⟩
  iapply (wp_load_val c (M := oM) (r := Rect.unit (s := S1024x2048) ![0, 0] S256x2048.size inb_S1024x2048_S256x2048_0_0) (f := (o2 m c)) (S := oq 0) (acc_eq cc0_stg0_0 rfl).subset (ldo_eq0 m c)) $$ Ho0
  iintro Ho0
  iapply (wp_load_val c (M := rM) (r := Rect.unit (s := S3x1024x1024) ![2, 0, 0] S1x256x1024.size inb_S3x1024x1024_S1x256x1024_2_0_0) (f := (rF m c)) (S := rq 0) (acc_eq cc0_scratch2 rfl).subset (ldq_eq0 m c)) $$ HL2
  iintro HL2
  iapply (wp_load_val c (M := wM) (r := Rect.unit (s := S4096x2048) (k0_off14 c 2#32) S1024x2048.size (k0_off14_inb c 1)) (f := (wF m c)) (S := bx2 (row c 2) 1024 0 2048) (acc_eq cc0_scratch1 (off14_2 c)).subset (ldw2_eq m c)) $$ Hw2
  iintro Hw2
  iapply (wp_load_val c (M := oM) (r := Rect.unit (s := S1024x2048) ![0, 0] S256x2048.size inb_S1024x2048_S256x2048_0_0) (f := (o2 m c)) (S := oq 0) (acc_eq cc0_stg0_0 rfl).subset (ldo_eq0 m c)) $$ Ho0
  iintro Ho0
  iapply (wp_storeQ m c 0 (off := ![0, 0]) rfl (show k0_pay23 (ldo m c 0) (ldq m c 0) (ldw2 m c) = qv m c 0 from rfl)) $$ Ho0
  iintro Ho0
  iapply (wp_load_val c (M := oM) (r := Rect.unit (s := S1024x2048) ![0, 0] S256x2048.size inb_S1024x2048_S256x2048_0_0) (f := (o3 m c)) (S := oq 0) (acc_eq cc0_stg0_0 rfl).subset (qv_eq0 m c)) $$ Ho0
  iintro Ho0
  iapply (wp_waitRX m K c 3 (by decide) 11 (S := rq 256) rfl rfl rfl (by decide)) $$ [$HR $HO $He3]
  iintro ⟨HO, HL3, Hzr3⟩
  iapply (wp_load_val c (M := oM) (r := Rect.unit (s := S1024x2048) ![256, 0] S256x2048.size inb_S1024x2048_S256x2048_256_0) (f := (o2 m c)) (S := oq 1) (acc_eq cc0_stg0_0 rfl).subset (ldo_eq1 m c)) $$ Ho1
  iintro Ho1
  iapply (wp_load_val c (M := rM) (r := Rect.unit (s := S3x1024x1024) ![2, 256, 0] S1x256x1024.size inb_S3x1024x1024_S1x256x1024_2_256_0) (f := (rF m c)) (S := rq 256) (acc_eq cc0_scratch2 rfl).subset (ldq_eq1 m c)) $$ HL3
  iintro HL3
  iapply Hk
  iframe HL2 HL3 HO Ho0 Ho1 Ho2 Ho3 Hw2 Hzr2 Hzr3

theorem part16 (c : Dev nD) (v35 v0 : BitVec 32) {α : Type} {Q : α → sProp 𝕄} {k : (Σ' (_ : F .f32), FVec F S256x2048 .f32) → Prog (TpuEff nD τ sig (Elt F) Λ₀ .tc) α} :
    iprop(Recs m K ∗ Ow c 11 ∗ Exp c 4 ∗ oP c (oq 1) (o2 m c) ∗ oP c (oq 2) (o2 m c) ∗ wP c (bx2 (row c 2) 1024 0 2048) (wF m c))
      ⊢ iprop((iprop(rP c (rq 512) (rF m c) ∗ Ow c 11 ∗ oP c (oq 1) (o3 m c) ∗ oP c (oq 2) (o3 m c) ∗ wP c (bx2 (row c 2) 1024 0 2048) (wF m c) ∗ semVal (kcell c (rK 4)) 0) -∗ WP c (k ⟨k0_pay28 (qv m c 1), k0_pay30 (qv m c 2)⟩) Q)
          -∗ WP c (k0_part16 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v35 v0 (k0_pay25 (ldo m c 1)) (k0_pay26 (ldq m c 1)) >>= k) Q) := by
  rw [k0_part16_eq_skeleton]; unfold k0_part16_skel
  simp only [semSignalWord, semWaitWord, Prog.lift, Prog.bind_op, Prog.bind_ret, Prog.pure_eq_ret]
  iintro ⟨#HR, HO, He4, Ho1, Ho2, Hw2⟩ Hk
  iapply (wp_load_val c (M := wM) (r := Rect.unit (s := S4096x2048) (k0_off14 c 2#32) S1024x2048.size (k0_off14_inb c 1)) (f := (wF m c)) (S := bx2 (row c 2) 1024 0 2048) (acc_eq cc0_scratch1 (off14_2 c)).subset (ldw2_eq m c)) $$ Hw2
  iintro Hw2
  iapply (wp_load_val c (M := oM) (r := Rect.unit (s := S1024x2048) ![256, 0] S256x2048.size inb_S1024x2048_S256x2048_256_0) (f := (o2 m c)) (S := oq 1) (acc_eq cc0_stg0_0 rfl).subset (ldo_eq1 m c)) $$ Ho1
  iintro Ho1
  iapply (wp_storeQ m c 1 (off := ![256, 0]) rfl (show k0_pay27 (k0_pay25 (ldo m c 1)) (k0_pay26 (ldq m c 1)) (ldw2 m c) = qv m c 1 from rfl)) $$ Ho1
  iintro Ho1
  iapply (wp_load_val c (M := oM) (r := Rect.unit (s := S1024x2048) ![256, 0] S256x2048.size inb_S1024x2048_S256x2048_256_0) (f := (o3 m c)) (S := oq 1) (acc_eq cc0_stg0_0 rfl).subset (qv_eq1 m c)) $$ Ho1
  iintro Ho1
  iapply (wp_waitRX m K c 4 (by decide) 11 (S := rq 512) rfl rfl rfl (by decide)) $$ [$HR $HO $He4]
  iintro ⟨HO, HL4, Hzr4⟩
  iapply (wp_load_val c (M := oM) (r := Rect.unit (s := S1024x2048) ![512, 0] S256x2048.size inb_S1024x2048_S256x2048_512_0) (f := (o2 m c)) (S := oq 2) (acc_eq cc0_stg0_0 rfl).subset (ldo_eq2 m c)) $$ Ho2
  iintro Ho2
  iapply (wp_load_val c (M := rM) (r := Rect.unit (s := S3x1024x1024) ![2, 512, 0] S1x256x1024.size inb_S3x1024x1024_S1x256x1024_2_512_0) (f := (rF m c)) (S := rq 512) (acc_eq cc0_scratch2 rfl).subset (ldq_eq2 m c)) $$ HL4
  iintro HL4
  iapply (wp_load_val c (M := wM) (r := Rect.unit (s := S4096x2048) (k0_off14 c 2#32) S1024x2048.size (k0_off14_inb c 1)) (f := (wF m c)) (S := bx2 (row c 2) 1024 0 2048) (acc_eq cc0_scratch1 (off14_2 c)).subset (ldw2_eq m c)) $$ Hw2
  iintro Hw2
  iapply (wp_load_val c (M := oM) (r := Rect.unit (s := S1024x2048) ![512, 0] S256x2048.size inb_S1024x2048_S256x2048_512_0) (f := (o2 m c)) (S := oq 2) (acc_eq cc0_stg0_0 rfl).subset (ldo_eq2 m c)) $$ Ho2
  iintro Ho2
  iapply (wp_storeQ m c 2 (off := ![512, 0]) rfl (show k0_pay29 (ldo m c 2) (ldq m c 2) (ldw2 m c) = qv m c 2 from rfl)) $$ Ho2
  iintro Ho2
  iapply (wp_load_val c (M := oM) (r := Rect.unit (s := S1024x2048) ![512, 0] S256x2048.size inb_S1024x2048_S256x2048_512_0) (f := (o3 m c)) (S := oq 2) (acc_eq cc0_stg0_0 rfl).subset (qv_eq2 m c)) $$ Ho2
  iintro Ho2
  iapply Hk
  iframe HL4 HO Ho1 Ho2 Hw2 Hzr4

end Cert.KernelIdeal.Mesh

end
-- ==== Proof.KernelIdeal.PartsE.lean ====
/-
The parts 17 to 21 of the kernel's body: what each takes and what it leaves.
-/
module

public import proofs.«01_k».proof.Proof.KernelIdeal.Steps

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

theorem part17 (c : Dev nD) (v35 v0 : BitVec 32) {α : Type} {Q : α → sProp 𝕄} {k : (Σ' (_ : F .f32), F .f32) → Prog (TpuEff nD τ sig (Elt F) Λ₀ .tc) α} :
    iprop(Recs m K ∗ Ow c 11 ∗ Exp c 5 ∗ oP c (oq 3) (o2 m c) ∗ wP c (bx2 (row c 2) 1024 0 2048) (wF m c))
      ⊢ iprop((iprop(rP c (rq 768) (rF m c) ∗ Ow c 11 ∗ oP c (oq 3) (o3 m c) ∗ wP c (bx2 (row c 2) 1024 0 2048) (wF m c) ∗ semVal (kcell c (rK 5)) 0) -∗ WP c (k ⟨mxa m c, mxb m c⟩) Q)
          -∗ WP c (k0_part17 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v35 v0 (k0_pay24 (qv m c 0)) (k0_pay28 (qv m c 1)) (k0_pay30 (qv m c 2)) >>= k) Q) := by
  rw [k0_part17_eq_skeleton]; unfold k0_part17_skel
  simp only [semSignalWord, semWaitWord, Prog.lift, Prog.bind_op, Prog.bind_ret, Prog.pure_eq_ret]
  iintro ⟨#HR, HO, He5, Ho3, Hw2⟩ Hk
  iapply (wp_waitRX m K c 5 (by decide) 11 (S := rq 768) rfl rfl rfl (by decide)) $$ [$HR $HO $He5]
  iintro ⟨HO, HL5, Hzr5⟩
  iapply (wp_load_val c (M := oM) (r := Rect.unit (s := S1024x2048) ![768, 0] S256x2048.size inb_S1024x2048_S256x2048_768_0) (f := (o2 m c)) (S := oq 3) (acc_eq cc0_stg0_0 rfl).subset (ldo_eq3 m c)) $$ Ho3
  iintro Ho3
  iapply (wp_load_val c (M := rM) (r := Rect.unit (s := S3x1024x1024) ![2, 768, 0] S1x256x1024.size inb_S3x1024x1024_S1x256x1024_2_768_0) (f := (rF m c)) (S := rq 768) (acc_eq cc0_scratch2 rfl).subset (ldq_eq3 m c)) $$ HL5
  iintro HL5
  iapply (wp_load_val c (M := wM) (r := Rect.unit (s := S4096x2048) (k0_off14 c 2#32) S1024x2048.size (k0_off14_inb c 1)) (f := (wF m c)) (S := bx2 (row c 2) 1024 0 2048) (acc_eq cc0_scratch1 (off14_2 c)).subset (ldw2_eq m c)) $$ Hw2
  iintro Hw2
  iapply (wp_load_val c (M := oM) (r := Rect.unit (s := S1024x2048) ![768, 0] S256x2048.size inb_S1024x2048_S256x2048_768_0) (f := (o2 m c)) (S := oq 3) (acc_eq cc0_stg0_0 rfl).subset (ldo_eq3 m c)) $$ Ho3
  iintro Ho3
  iapply (wp_storeQ m c 3 (off := ![768, 0]) rfl (show k0_pay31 (ldo m c 3) (ldq m c 3) (ldw2 m c) = qv m c 3 from rfl)) $$ Ho3
  iintro Ho3
  iapply (wp_load_val c (M := oM) (r := Rect.unit (s := S1024x2048) ![768, 0] S256x2048.size inb_S1024x2048_S256x2048_768_0) (f := (o3 m c)) (S := oq 3) (acc_eq cc0_stg0_0 rfl).subset (qv_eq3 m c)) $$ Ho3
  iintro Ho3
  iapply Hk
  iframe HL5 HO Ho3 Hw2 Hzr5

theorem part18 (c : Dev nD) {α : Type} {Q : α → sProp 𝕄} {k : PUnit → Prog (TpuEff nD τ sig (Elt F) Λ₀ .tc) α} :
    iprop(Recs m K ∗ Ow c 11 ∗ Sent c 0 ∗ Sent c 1 ∗ Sent c 2 ∗ Sent c 6 ∗ Sent c 7)
      ⊢ iprop((iprop(Ow c 11 ∗ xP c (bx2 (row c 1) 1024 0 512) (xF m c) ∗ xP c (bx2 (row c 1) 1024 512 512) (xF m c) ∗ xP c (bx2 (row c 3) 1024 0 512) (xF m c) ∗ xP c (bx2 (row c 3) 1024 512 512) (xF m c) ∗ xP c (bx2 (row c 2 + 0) 256 0 1024) (xF m c) ∗ semVal (kcell c (sK 0)) 0 ∗ semVal (kcell c (sK 1)) 0 ∗ semVal (kcell c (sK 2)) 0 ∗ semVal (kcell c (sK 6)) 0 ∗ semVal (kcell c (sK 7)) 0) -∗ WP c (k ⟨⟩) Q)
          -∗ WP c (k0_part18 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c >>= k) Q) := by
  rw [k0_part18_eq_skeleton]; unfold k0_part18_skel
  simp only [semSignalWord, semWaitWord, Prog.lift, Prog.bind_op, Prog.bind_ret, Prog.pure_eq_ret]
  iintro ⟨#HR, HO, Hs0, Hs1, Hs2, Hs6, Hs7⟩ Hk
  iapply (wp_waitSX m K c 0 (by decide) 11 (S := bx2 (row c 1) 1024 0 512) rfl rfl rfl (by decide)) $$ [$HR $HO $Hs0]
  iintro ⟨HO, Hx1_0, Hzs0⟩
  iapply (wp_waitSX m K c 6 (by decide) 11 (S := bx2 (row c 3) 1024 0 512) rfl rfl rfl (by decide)) $$ [$HR $HO $Hs6]
  iintro ⟨HO, Hx3_0, Hzs6⟩
  iapply (wp_waitSX m K c 1 (by decide) 11 (S := bx2 (row c 1) 1024 512 512) rfl rfl rfl (by decide)) $$ [$HR $HO $Hs1]
  iintro ⟨HO, Hx1_512, Hzs1⟩
  iapply (wp_waitSX m K c 7 (by decide) 11 (S := bx2 (row c 3) 1024 512 512) rfl rfl rfl (by decide)) $$ [$HR $HO $Hs7]
  iintro ⟨HO, Hx3_512, Hzs7⟩
  iapply (wp_waitSX m K c 2 (by decide) 11 (S := bx2 (row c 2 + 0) 256 0 1024) rfl rfl rfl (by decide)) $$ [$HR $HO $Hs2]
  iintro ⟨HO, Hxq0, Hzs2⟩
  iapply Hk
  iframe HO Hx1_0 Hx1_512 Hx3_0 Hx3_512 Hxq0 Hzs0 Hzs1 Hzs2 Hzs6 Hzs7

theorem part19 (c : Dev nD) (v13 : BitVec 32) {α : Type} {Q : α → sProp 𝕄} {k : F .f32 → Prog (TpuEff nD τ sig (Elt F) Λ₀ .tc) α} :
    iprop(Recs m K ∗ Ow c 11 ∗ (∃ f, pP (F := F) c pBox fullShare f) ∗ Sent c 3 ∗ Sent c 4 ∗ Sent c 5)
      ⊢ iprop((iprop(Ow c 11 ∗ pP c pBox fullShare (pF m c) ∗ xP c (bx2 (row c 2 + 256) 256 0 1024) (xF m c) ∗ xP c (bx2 (row c 2 + 512) 256 0 1024) (xF m c) ∗ xP c (bx2 (row c 2 + 768) 256 0 1024) (xF m c) ∗ semVal (kcell c (sK 3)) 0 ∗ semVal (kcell c (sK 4)) 0 ∗ semVal (kcell c (sK 5)) 0) -∗ WP c (k (mx m c)) Q)
          -∗ WP c (k0_part19 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v13 (mxa m c) (mxb m c) >>= k) Q) := by
  rw [k0_part19_eq_skeleton]; unfold k0_part19_skel
  simp only [semSignalWord, semWaitWord, Prog.lift, Prog.bind_op, Prog.bind_ret, Prog.pure_eq_ret]
  iintro ⟨#HR, HO, Hp, Hs3, Hs4, Hs5⟩ Hk
  iapply (wp_waitSX m K c 3 (by decide) 11 (S := bx2 (row c 2 + 256) 256 0 1024) rfl rfl rfl (by decide)) $$ [$HR $HO $Hs3]
  iintro ⟨HO, Hxq256, Hzs3⟩
  iapply (wp_waitSX m K c 4 (by decide) 11 (S := bx2 (row c 2 + 512) 256 0 1024) rfl rfl rfl (by decide)) $$ [$HR $HO $Hs4]
  iintro ⟨HO, Hxq512, Hzs4⟩
  iapply (wp_waitSX m K c 5 (by decide) 11 (S := bx2 (row c 2 + 768) 256 0 1024) rfl rfl rfl (by decide)) $$ [$HR $HO $Hs5]
  iintro ⟨HO, Hxq768, Hzs5⟩
  iapply (wp_load_any c (M := pM) (r := Rect.unit (s := S2x128) ![0, 0] S1x128.size inb_S2x128_S1x128_0_0) (S := pBox) (acc_eq cc0_scratch4 rfl).subset) $$ Hp
  iintro %_ Hp
  iapply (wp_storeP m c (a := mxa m c) (b := mxb m c) rfl) $$ Hp
  iintro Hp
  iapply Hk
  iframe HO Hp Hxq256 Hxq512 Hxq768 Hzs3 Hzs4 Hzs5

theorem part20 (c : Dev nD) (v13 v24 v35 : BitVec 32) {α : Type} {Q : α → sProp 𝕄} {k : BitVec 32 → Prog (TpuEff nD τ sig (Elt F) Λ₀ .tc) α} :
    iprop(Recs m K ∗ Ow c 11 ∗ LandA (F := F) c 10 ∗ LandA (F := F) c 8 ∗ LandA (F := F) c 9 ∗ pP c pBox fullShare (pF m c) ∗ Tok c 10 ∗ Tok c 8 ∗ Tok c 9)
      ⊢ iprop((∀ v : BitVec 32, ⌜True⌝ -∗ iprop(Ow c 14 ∗ pP c pBox fullShare.left (pF m c) ∗ Sent c 10 ∗ Sent c 9 ∗ semVal (kcell c (sK 8)) 0) -∗ WP c (k v) Q)
          -∗ WP c (k0_part20 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 c v13 v24 v35 >>= k) Q) := by
  rw [k0_part20_eq_skeleton]; unfold k0_part20_skel
  simp only [semSignalWord, semWaitWord, Prog.lift, Prog.bind_op, Prog.bind_ret, Prog.pure_eq_ret]
  iintro ⟨#HR, HO, Hl10, Hl8, Hl9, Hp, Ht10, Ht8, Ht9⟩ Hk
  ihave Hp := (to_shares m c).1 $$ Hp
  icases Hp with ⟨Hp8, Hp9, Hp10⟩
  iapply (wp_sendA2 m K c (⟨k0_dev12 c, k0_dev12_lt c⟩ : Dev nD) 8 (by decide) (dev12 c) (i := 11) (i' := 12) rfl rfl (q := fullShare.left) rfl rfl rfl rfl rfl) $$ [$HR $Hp8 $Hl8 $HO $Ht8]
  iintro ⟨Hs8, HO⟩
  iapply (wp_sendA2 m K c (⟨k0_dev13 c, k0_dev13_lt c⟩ : Dev nD) 9 (by decide) (dev13 c) (i := 12) (i' := 13) rfl rfl (q := fullShare.right.left) rfl rfl rfl rfl rfl) $$ [$HR $Hp9 $Hl9 $HO $Ht9]
  iintro ⟨Hs9, HO⟩
  iapply (wp_sendA2 m K c (⟨k0_dev14 c, k0_dev14_lt c⟩ : Dev nD) 10 (by decide) (dev14 c) (i := 13) (i' := 14) rfl rfl (q := fullShare.right.right) rfl rfl rfl rfl rfl) $$ [$HR $Hp10 $Hl10 $HO $Ht10]
  iintro ⟨Hs10, HO⟩
  iapply (wp_waitSA m K c 8 (by decide) 14 (q := fullShare.left) rfl rfl rfl (by decide)) $$ [$HR $HO $Hs8]
  iintro ⟨HO, Hp8, Hzs8⟩
  iapply Hk $$ %_ [] [-]
  · ipureintro; trivial
  iframe HO Hp8 Hs10 Hs9 Hzs8

theorem part21 (c : Dev nD) (v24 v0 : BitVec 32) {α : Type} {Q : α → sProp 𝕄} {k : F .f32 → Prog (TpuEff nD τ sig (Elt F) Λ₀ .tc) α} :
    iprop(Recs m K ∗ Ow c 14 ∗ Exp c 8 ∗ Exp c 9 ∗ Sent c 9)
      ⊢ iprop((iprop(qP c (qBox 0) (qF m c) ∗ qP c (qBox 1) (qF m c) ∗ Ow c 14 ∗ pP c pBox fullShare.right.left (pF m c) ∗ semVal (kcell c (rK 8)) 0 ∗ semVal (kcell c (rK 9)) 0 ∗ semVal (kcell c (sK 9)) 0) -∗ WP c (k (mx2 m c)) Q)
          -∗ WP c (k0_part21 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 v24 (mx m c) v0 >>= k) Q) := by
  rw [k0_part21_eq_skeleton]; unfold k0_part21_skel
  simp only [semSignalWord, semWaitWord, Prog.lift, Prog.bind_op, Prog.bind_ret, Prog.pure_eq_ret]
  iintro ⟨#HR, HO, He8, He9, Hs9⟩ Hk
  iapply (wp_waitRA m K c 8 (by decide) 14 (s₀ := 0) rfl rfl rfl (by decide)) $$ [$HR $HO $He8]
  iintro ⟨HO, HL8, Hzr8⟩
  iapply (wp_load_val c (M := qM) (r := Rect.unit (s := S3x2x128) ![0, 0, 0] S1x1x1.size inb_S3x2x128_S1x1x1_0_0_0) (f := (qF m c)) (S := qBox 0) ((acc_eq cc0_scratch5 rfl).subset.trans (lda_sub 0)) (lda_eq0 m c)) $$ HL8
  iintro HL8
  iapply (wp_waitSA m K c 9 (by decide) 14 (q := fullShare.right.left) rfl rfl rfl (by decide)) $$ [$HR $HO $Hs9]
  iintro ⟨HO, Hp9, Hzs9⟩
  iapply (wp_waitRA m K c 9 (by decide) 14 (s₀ := 1) rfl rfl rfl (by decide)) $$ [$HR $HO $He9]
  iintro ⟨HO, HL9, Hzr9⟩
  iapply (wp_load_val c (M := qM) (r := Rect.unit (s := S3x2x128) ![1, 0, 0] S1x1x1.size inb_S3x2x128_S1x1x1_1_0_0) (f := (qF m c)) (S := qBox 1) ((acc_eq cc0_scratch5 rfl).subset.trans (lda_sub 1)) (lda_eq1 m c)) $$ HL9
  iintro HL9
  iapply Hk
  iframe HL8 HL9 HO Hp9 Hzr8 Hzr9 Hzs9

end Cert.KernelIdeal.Mesh

end
-- ==== Proof.KernelIdeal.Body.lean ====
/-
The kernel's body, its parts in order.
-/
module

public import proofs.«01_k».proof.Proof.KernelIdeal.PartsA
public import proofs.«01_k».proof.Proof.KernelIdeal.PartsB
public import proofs.«01_k».proof.Proof.KernelIdeal.PartsC
public import proofs.«01_k».proof.Proof.KernelIdeal.PartsD
public import proofs.«01_k».proof.Proof.KernelIdeal.PartsE

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-- The first part reads the device's number; the words it computes are carried along unread. -/
theorem part1 (c : Dev nD) {α : Type} {Q : α → sProp 𝕄} {k : (Σ' (d0 : Dev nD) (v2 : BitVec 32) (v13 : BitVec 32) (v24 : BitVec 32), BitVec 32) → Prog (TpuEff nD τ sig (Elt F) Λ₀ .tc) α} :
    iprop(∀ v2 : BitVec 32, ∀ v13 : BitVec 32, ∀ v24 : BitVec 32, ∀ v35 : BitVec 32, WP c (k ⟨c, v2, v13, v24, v35⟩) Q)
      ⊢ WP c (k0_part1 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10 >>= k) Q := by
  rw [k0_part1_eq_skeleton]; unfold k0_part1_skel
  simp only [Prog.lift, Prog.bind_op, Prog.bind_ret, Prog.pure_eq_ret, wp_deviceId]
  iintro H
  iapply H

/-- What the body starts from: what it owes, its tokens, and every buffer in the pieces it is used in. -/
def pieces₀ (c : Dev nD) : sProp 𝕄 :=
  iprop(Ow c 0 ∗ aP m c (cpQ 0) Finset.univ ∗ aP m c (cpQ 1) Finset.univ ∗ atPos ER (kcell c 0) 0 ∅ 0 ∗ bP m c (cpQ 0) Finset.univ ∗ bP m c (cpQ 1) Finset.univ ∗ cred (tallyAt (kcell c 0) () 3) ∗ dutyTok ER (kcell (src 0 c) 0) 0 0 ∗ dutyTok ER (kcell (src 1 c) 0) 0 1 ∗ dutyTok ER (kcell (src 2 c) 0) 0 2 ∗ Exp c 0 ∗ Exp c 1 ∗ Exp c 10 ∗ Exp c 2 ∗ Exp c 3 ∗ Exp c 4 ∗ Exp c 5 ∗ Exp c 6 ∗ Exp c 7 ∗ Exp c 8 ∗ Exp c 9 ∗ (∃ f, gP (F := F) c (slab 0) f) ∗ (∃ f, gP (F := F) c (slab 1) f) ∗ (∃ f, oP (F := F) c Finset.univ f) ∗ (∃ f, pP (F := F) c pBox fullShare f) ∗ (∃ f, qP (F := F) c (qBox 0) f) ∗ (∃ f, qP (F := F) c (qBox 1) f) ∗ (∃ f, qP (F := F) c (qBox 2) f) ∗ (∃ f, rP (F := F) c (slotBox 0) f) ∗ (∃ f, rP (F := F) c (slotBox 1) f) ∗ (∃ f, rP (F := F) c (slotBox 2) f) ∗ Tok c 0 ∗ Tok c 1 ∗ Tok c 10 ∗ Tok c 2 ∗ Tok c 3 ∗ Tok c 4 ∗ Tok c 5 ∗ Tok c 6 ∗ Tok c 7 ∗ Tok c 8 ∗ Tok c 9 ∗ semVal ((c : Thread nD τ), .dma (cpS 0)) 0 ∗ semVal ((c : Thread nD τ), .dma (cpS 1)) 0 ∗ (∃ f, wP (F := F) c (bx2 (row c 0) 1024 0 2048) f) ∗ (∃ f, wP (F := F) c (bx2 (row c 1) 1024 0 2048) f) ∗ (∃ f, wP (F := F) c (bx2 (row c 2) 1024 0 2048) f) ∗ (∃ f, wP (F := F) c (bx2 (row c 3) 1024 0 2048) f) ∗ (∃ f, xP (F := F) c (bx2 (row c 0) 1024 0 512) f) ∗ (∃ f, xP (F := F) c (bx2 (row c 0) 1024 512 512) f) ∗ (∃ f, xP (F := F) c (bx2 (row c 1) 1024 0 512) f) ∗ (∃ f, xP (F := F) c (bx2 (row c 1) 1024 512 512) f) ∗ (∃ f, xP (F := F) c (bx2 (row c 2) 1024 0 512) f) ∗ (∃ f, xP (F := F) c (bx2 (row c 2) 1024 512 512) f) ∗ (∃ f, xP (F := F) c (bx2 (row c 3) 1024 0 512) f) ∗ (∃ f, xP (F := F) c (bx2 (row c 3) 1024 512 512) f))

/-- What it ends with. -/
def pieces₁ (c : Dev nD) : sProp 𝕄 :=
  iprop(qP c (qBox 2) (qF m c) ∗ rP c (rq 0) (rF m c) ∗ rP c (rq 256) (rF m c) ∗ rP c (rq 512) (rF m c) ∗ rP c (rq 768) (rF m c) ∗ qP c (qBox 0) (qF m c) ∗ qP c (qBox 1) (qF m c) ∗ rP c (slotBox 0) (rF m c) ∗ rP c (slotBox 1) (rF m c) ∗ Ow c 14 ∗ aP m c (cpQ 0) Finset.univ ∗ aP m c (cpQ 1) Finset.univ ∗ bP m c (cpQ 0) Finset.univ ∗ bP m c (cpQ 1) Finset.univ ∗ semVal (kcell c 0) 0 ∗ (∃ f, gP (F := F) c (slab 0) f) ∗ (∃ f, gP (F := F) c (slab 1) f) ∗ oP c Finset.univ (o3 m c) ∗ pP c pBox fullShare.right.right (pF m c) ∗ pP c pBox fullShare.left (pF m c) ∗ pP c pBox fullShare.right.left (pF m c) ∗ semVal ((c : Thread nD τ), .dma (cpS 0)) 0 ∗ semVal ((c : Thread nD τ), .dma (cpS 1)) 0 ∗ wP c (bx2 (row c 0) 1024 0 2048) (wF m c) ∗ wP c (bx2 (row c 1) 1024 0 2048) (wF m c) ∗ wP c (bx2 (row c 2) 1024 0 2048) (wF m c) ∗ wP c (bx2 (row c 3) 1024 0 2048) (wF m c) ∗ xP c (bx2 (row c 0) 1024 0 1024) (xF m c) ∗ xP c (bx2 (row c 1) 1024 0 512) (xF m c) ∗ xP c (bx2 (row c 1) 1024 512 512) (xF m c) ∗ xP c (bx2 (row c 3) 1024 0 512) (xF m c) ∗ xP c (bx2 (row c 3) 1024 512 512) (xF m c) ∗ xP c (bx2 (row c 2 + 0) 256 0 1024) (xF m c) ∗ xP c (bx2 (row c 2 + 256) 256 0 1024) (xF m c) ∗ xP c (bx2 (row c 2 + 512) 256 0 1024) (xF m c) ∗ xP c (bx2 (row c 2 + 768) 256 0 1024) (xF m c) ∗ semVal (kcell c (rK 0)) 0 ∗ semVal (kcell c (rK 1)) 0 ∗ semVal (kcell c (rK 10)) 0 ∗ semVal (kcell c (rK 2)) 0 ∗ semVal (kcell c (rK 3)) 0 ∗ semVal (kcell c (rK 4)) 0 ∗ semVal (kcell c (rK 5)) 0 ∗ semVal (kcell c (rK 6)) 0 ∗ semVal (kcell c (rK 7)) 0 ∗ semVal (kcell c (rK 8)) 0 ∗ semVal (kcell c (rK 9)) 0 ∗ semVal (kcell c (sK 0)) 0 ∗ semVal (kcell c (sK 1)) 0 ∗ semVal (kcell c (sK 10)) 0 ∗ semVal (kcell c (sK 2)) 0 ∗ semVal (kcell c (sK 3)) 0 ∗ semVal (kcell c (sK 4)) 0 ∗ semVal (kcell c (sK 5)) 0 ∗ semVal (kcell c (sK 6)) 0 ∗ semVal (kcell c (sK 7)) 0 ∗ semVal (kcell c (sK 8)) 0 ∗ semVal (kcell c (sK 9)) 0)

set_option maxHeartbeats 1600000 in
theorem part22 (c : Dev nD) {Q : (Σ' (v623 : F .f32) (v625 : FVec F S1024x2048 .f32), FVec F S1024x2048 .f32) → sProp 𝕄} :
    iprop(Recs m K ∗ pieces₀ m c)
      ⊢ iprop((pieces₁ m c -∗ Q ⟨k0_pay37 (mx2 m c) (lda m c 2), k0_pay38 (o3 m c), k0_pay39 (mx2 m c) (lda m c 2)⟩)
          -∗ WP c (k0_part22 (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10) Q) := by
  rw [k0_part22_eq_skeleton]; unfold k0_part22_skel pieces₀ pieces₁
  simp only [Prog.lift, Prog.bind_op, Prog.bind_ret, Prog.pure_eq_ret]
  iintro ⟨#HR, HO, Ha0, Ha1, Hab, Hb0, Hb1, Hcb, Hd0, Hd1, Hd2, He0, He1, He10, He2, He3, He4, He5, He6, He7, He8, He9, Hg0, Hg1, Hout, Hp, Hq0, Hq1, Hq2, Hr0, Hr1, Hr2, Ht0, Ht1, Ht10, Ht2, Ht3, Ht4, Ht5, Ht6, Ht7, Ht8, Ht9, Hv0, Hv1, Hw0, Hw1, Hw2, Hw3, Hx0_0, Hx0_512, Hx1_0, Hx1_512, Hx2_0, Hx2_512, Hx3_0, Hx3_512⟩ Hk
  iapply (part1 c)
  iintro %v2 %v13 %v24 %v35
  iapply (part2 m K c _ _ _) $$ [$HR $HO $Ha0 $Ha1 $Hab $Hcb $Hd0 $Hd1 $Hd2 $Hg0 $Hg1 $Hq0 $Hq1 $Hq2 $Hr0 $Hr1 $Hr2 $Hv0 $Hv1]
  iintro ⟨HC1, HO, HS0, Ha0, Hbv, Hl0, Hl1, Hl10, Hl2, Hl3, Hl4, Hl5, Hl6, Hl7, Hl8, Hl9, Hv0⟩
  iapply (part3 m K c _) $$ [$HR $HC1 $HO $HS0 $Ha0 $Hl0 $Ht0 $Hv0 $Hx1_0]
  iintro ⟨HC0, HO, HS1, Ha1, Hs0, Hv1⟩
  iapply (part4 m K c _) $$ [$HR $HC0 $HO $HS1 $Ha1 $Hl6 $Ht6 $Hv1 $Hx3_0]
  iintro %w2 %hw2 ⟨HC1, HO, Ha0, Hg0, Hs6, Hv0⟩
  iapply (part5 m K c _ _ w2 hw2) $$ [$HR $HC1 $HO $Ha0 $Hg0 $Hl1 $Ht1 $Hv0 $Hx1_512]
  iintro %w3 %hw3 ⟨HC0, HO, Ha1, Hg1, Hs1, Hv1⟩
  iapply (part6 m K c _ _ _ w3 hw3) $$ [$HR $HC0 $HO $Ha1 $Hg1 $Hl7 $Ht7 $Hv1 $Hx3_512]
  iintro %w4 %hw4 ⟨HC1, HO, Ha0, Hg0, Hs7, Hv0⟩
  iapply (part7 m K c _ _ w4 hw4) $$ [$HR $HC1 $HO $Ha0 $Hg0 $Hv0 $Hx2_0 $Hx2_512]
  iintro ⟨HC0, HC1, HO, Hx2_0, Hx2_512⟩
  iapply (part8 m K c _) $$ [$HR $HO $Hl2 $Hl3 $Ht2 $Ht3 $Hx2_0 $Hx2_512]
  iintro ⟨HO, Hs2, Hs3, Hxq512, Hxq768⟩
  iapply (part9 m K c _ _) $$ [$HR $HC0 $HO $Hl4 $Hl5 $Ht4 $Ht5 $Hx0_0 $Hxq512 $Hxq768]
  iintro ⟨HO, Ha0, Hg0, Hs4, Hs5, Hv0, Hx0_0⟩
  iapply (part10 m K c _ _) $$ [$HR $HC1 $HO $Hb0 $Hb1 $Hg0 $Hv0 $Hx0_512]
  iintro %w5 %hw5 ⟨HC1, HO, Ha1, Hb0, Hg0, Hv0, Hx0_512⟩
  iapply (part11 m K c _ _ _ w5 hw5) $$ [$HR $HC1 $HO $Hb0 $Hg0 $Hout $Hv0 $Hw0 $Hw3 $Hx0_0 $Hx0_512]
  iintro ⟨HC0, HO, Hb1, Hg1, Hout, Hv1, Hw0, Hw3, Hx0⟩
  iapply (part12 m K c _ _ _ _) $$ [$HR $HO $Hb1 $He0 $He1 $Hg1 $Hout $Hv1 $Hw3]
  iintro ⟨HC1, HLs0, HO, Hout, Hw3, Hzr0, Hzr1⟩
  iapply (part13 m K c _ _) $$ [$HR $HC0 $HO $He6 $Hout $Hw1]
  iintro ⟨HL6, HO, Hb0, Hg0, Hout, Hv0, Hw1, Hzr6⟩
  iapply (part14 m K c _ _) $$ [$HR $HC1 $HL6 $HO $He7 $Hout $Hw1 $Hw2]
  iintro %v %hv ⟨HLs1, HO, Hb1, Hg1, Hout, Hv1, Hw1, Hw2, Hzr7⟩
  iapply (part15 m K c _ _) $$ [$HR $HO $He2 $He3 $Hout $Hw2]
  iintro ⟨HL2, HL3, HO, Ho0, Ho1, Ho2, Ho3, Hw2, Hzr2, Hzr3⟩
  iapply (part16 m K c _ _) $$ [$HR $HO $He4 $Ho1 $Ho2 $Hw2]
  iintro ⟨HL4, HO, Ho1, Ho2, Hw2, Hzr4⟩
  iapply (part17 m K c _ _) $$ [$HR $HO $He5 $Ho3 $Hw2]
  iintro ⟨HL5, HO, Ho3, Hw2, Hzr5⟩
  iapply (part18 m K c) $$ [$HR $HO $Hs0 $Hs1 $Hs2 $Hs6 $Hs7]
  iintro ⟨HO, Hx1_0, Hx1_512, Hx3_0, Hx3_512, Hxq0, Hzs0, Hzs1, Hzs2, Hzs6, Hzs7⟩
  iapply (part19 m K c _) $$ [$HR $HO $Hp $Hs3 $Hs4 $Hs5]
  iintro ⟨HO, Hp, Hxq256, Hxq512, Hxq768, Hzs3, Hzs4, Hzs5⟩
  iapply (part20 m K c _ _ _) $$ [$HR $HO $Hl10 $Hl8 $Hl9 $Hp $Ht10 $Ht8 $Ht9]
  iintro %v %hv ⟨HO, Hp8, Hs10, Hs9, Hzs8⟩
  iapply (part21 m K c _ _) $$ [$HR $HO $He8 $He9 $Hs9]
  iintro ⟨HL8, HL9, HO, Hp9, Hzr8, Hzr9, Hzs9⟩
  iapply (wp_waitSA m K c 10 (by decide) 14 (q := fullShare.right.right) rfl rfl rfl (by decide)) $$ [$HR $HO $Hs10]
  iintro ⟨HO, Hp10, Hzs10⟩
  iapply (wp_waitRA m K c 10 (by decide) 14 (s₀ := 2) rfl rfl rfl (by decide)) $$ [$HR $HO $He10]
  iintro ⟨HO, HL10, Hzr10⟩
  iapply (wp_load_val c (M := qM) (r := Rect.unit (s := S3x2x128) ![2, 0, 0] S1x1x1.size inb_S3x2x128_S1x1x1_2_0_0) (f := (qF m c)) (S := qBox 2) ((acc_eq cc0_scratch5 rfl).subset.trans (lda_sub 2)) (lda_eq2 m c)) $$ HL10
  iintro HL10
  ihave Hout := (split4 (F := F) (ℓ := oM.view.loc (c : Thread nD τ)) oq_mem oq_dis).2 $$ [$Ho0 $Ho1 $Ho2 $Ho3]
  iapply (wp_load_val c (M := oM) (r := Rect.unit (s := S1024x2048) ![0, 0] S1024x2048.size inb_S1024x2048_S1024x2048_0_0) (S := Finset.univ) (f := o3 m c) (Finset.subset_univ _) (whole_eq (o3 m c))) $$ Hout
  iintro Hout
  iapply le_wp_ret
  iapply Hk
  iframe HL10 HL2 HL3 HL4 HL5 HL8 HL9 HLs0 HLs1 HO Ha0 Ha1 Hb0 Hb1 Hbv Hg0 Hg1 Hout Hp10 Hp8 Hp9 Hv0 Hv1 Hw0 Hw1 Hw2 Hw3 Hx0 Hx1_0 Hx1_512 Hx3_0 Hx3_512 Hxq0 Hxq256 Hxq512 Hxq768 Hzr0 Hzr1 Hzr10 Hzr2 Hzr3 Hzr4 Hzr5 Hzr6 Hzr7 Hzr8 Hzr9 Hzs0 Hzs1 Hzs10 Hzs2 Hzs3 Hzs4 Hzs5 Hzs6 Hzs7 Hzs8 Hzs9

end Cert.KernelIdeal.Mesh

end
-- ==== Proof.KernelIdeal.Whole.lean ====
/-
The body from whole buffers to whole buffers.
-/
module

public import proofs.«01_k».proof.Proof.KernelIdeal.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

omit [FloatOps F] in
theorem bigSep_eleven (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
omit [FloatOps F] in
theorem bigSep_cells (Φ : Fin 23 → sProp 𝕄) : bigSep Finset.univ Φ
    = iprop(Φ 0 ∗ Φ (sK 0) ∗ Φ (sK 1) ∗ Φ (sK 2) ∗ Φ (sK 3) ∗ Φ (sK 4) ∗ Φ (sK 5) ∗ Φ (sK 6) ∗ Φ (sK 7) ∗ Φ (sK 8) ∗ Φ (sK 9) ∗ Φ (sK 10) ∗ Φ (rK 0) ∗ Φ (rK 1) ∗ Φ (rK 2) ∗ Φ (rK 3) ∗ Φ (rK 4) ∗ Φ (rK 5) ∗ Φ (rK 6) ∗ Φ (rK 7) ∗ Φ (rK 8) ∗ Φ (rK 9) ∗ Φ (rK 10)) :=
  bigSep_univ_eq_bigSepL [0, sK 0, sK 1, sK 2, sK 3, sK 4, sK 5, sK 6, sK 7, sK 8, sK 9, sK 10, rK 0, rK 1, rK 2, rK 3, rK 4, rK 5, rK 6, rK 7, rK 8, rK 9, rK 10] (by decide) (by decide) Φ

theorem a_shares (c : Dev nD) : aP m c fullShare Finset.univ ⊣⊢ iprop(aP m c (cpQ 0) Finset.univ ∗ aP m c (cpQ 1) Finset.univ) :=
  pointsTo_share (PosShare.mem_left_op_right _)
theorem b_shares (c : Dev nD) : bP m c fullShare Finset.univ ⊣⊢ iprop(bP m c (cpQ 0) Finset.univ ∗ bP m c (cpQ 1) Finset.univ) :=
  pointsTo_share (PosShare.mem_left_op_right _)

theorem to_ex {ℓ : Loc nD τ sig} {q : PosShare TreeShare} {S : Finset (Idx ℓ)} (f : Buf (Elt F) ℓ) :
    (ℓ ↦[S]{q} f : sProp 𝕄) ⊢ iprop(∃ g : Buf (Elt F) ℓ, ℓ ↦[S]{q} g) := exists_intro (Φ := fun g : Buf (Elt F) ℓ => (ℓ ↦[S]{q} g : sProp 𝕄)) f

theorem close_r (c : Dev nD) : iprop(rP c (slotBox 0) (rF m c) ∗ rP c (slotBox 1) (rF m c) ∗ rP c (slotBox 2) (rF m c) ∗ ∃ f, rP (F := F) c ∅ f)
    ⊢ iprop(∃ f, rP (F := F) c Finset.univ f) :=
  (Idealize.SL.BI.sep_mono (to_ex _) (Idealize.SL.BI.sep_mono (to_ex _) (sep_mono_left (to_ex _)))).trans
    (join4_ex (F := F) (ℓ := rM.view.loc (c : Thread nD τ)) slots_mem slots_dis)
theorem close_q (c : Dev nD) : iprop(qP c (qBox 0) (qF m c) ∗ qP c (qBox 1) (qF m c) ∗ qP c (qBox 2) (qF m c) ∗ ∃ f, qP (F := F) c qRest f)
    ⊢ iprop(∃ f, qP (F := F) c Finset.univ f) :=
  (Idealize.SL.BI.sep_mono (to_ex _) (Idealize.SL.BI.sep_mono (to_ex _) (sep_mono_left (to_ex _)))).trans
    (join4_ex (F := F) (ℓ := qM.view.loc (c : Thread nD τ)) qslots_mem qslots_dis)
theorem close_p (c : Dev nD) : iprop(pP c pBox fullShare (pF m c) ∗ ∃ f, pP (F := F) c (bx2 1 1 0 128) fullShare f)
    ⊢ iprop(∃ f, pP (F := F) c Finset.univ fullShare f) :=
  (sep_mono_left (to_ex _)).trans (join2_ex (F := F) (ℓ := pM.view.loc (c : Thread nD τ)) prows_mem prows_dis)

/-- The tokens and positions a device starts with, and the credits. -/
def linear (c : Dev nD) : sProp 𝕄 :=
  iprop(atPos ER (kcell c 0) 0 ∅ 0 ∗ dutyTok ER (kcell (src 0 c) 0) 0 0 ∗ dutyTok ER (kcell (src 1 c) 0) 0 1 ∗ dutyTok ER (kcell (src 2 c) 0) 0 2
    ∗ (bigSep Finset.univ fun j : Fin 11 => Tok (F := F) c j) ∗ bigSep Finset.univ fun j : Fin 11 => atPos ER (kcell c (rK j)) 0 ∅ 0)
def credits (c : Dev nD) : sProp 𝕄 :=
  iprop(cred (tallyAt (kcell c 0) () 3) ∗ bigSep Finset.univ fun j : Fin 11 => cred (tallyAt (kcell c (rK j)) () (amt j)))
/-- The scratch buffers, whatever they hold; the two arguments; the local transfers' counters. -/
def bufs (c : Dev nD) : sProp 𝕄 :=
  iprop((∃ f, xP (F := F) c Finset.univ f) ∗ (∃ f, wP (F := F) c Finset.univ f) ∗ (∃ f, rP (F := F) c Finset.univ f)
    ∗ (∃ f, gP (F := F) c Finset.univ f) ∗ (∃ f, pP (F := F) c Finset.univ fullShare f) ∗ ∃ f, qP (F := F) c Finset.univ f)
def args (c : Dev nD) : sProp 𝕄 := iprop(aP m c fullShare Finset.univ ∗ bP m c fullShare Finset.univ)
def locs (c : Dev nD) : sProp 𝕄 :=
  iprop(semVal ((c : Thread nD τ), .dma (cpS 0)) 0 ∗ semVal ((c : Thread nD τ), .dma (cpS 1)) 0)
/-- What no part of the body touches. -/
def extra (c : Dev nD) : sProp 𝕄 :=
  iprop((∃ f, pP (F := F) c (bx2 1 1 0 128) fullShare f) ∗ (∃ f, qP (F := F) c qRest f) ∗ ∃ f, rP (F := F) c ∅ f)

omit [FloatOps F] in
theorem exps (c : Dev nD) : iprop((bigSep Finset.univ fun j : Fin 11 => cred (tallyAt (kcell c (rK j)) () (amt j)))
      ∗ bigSep Finset.univ fun j : Fin 11 => atPos ER (kcell c (rK j)) 0 ∅ 0)
    ⊢ (bigSep Finset.univ fun j : Fin 11 => Exp (F := F) c j) := by
  rw [← bigSep_sep']
  exact Entails.of_eq rfl

set_option maxHeartbeats 1600000 in
theorem open_pieces (c : Dev nD) :
    iprop(Ow c 0 ∗ linear (F := F) c ∗ credits (F := F) c ∗ bufs (F := F) c ∗ args m c ∗ locs (F := F) c ∗ ∃ f, oP (F := F) c Finset.univ f)
      ⊢ iprop(pieces₀ m c ∗ extra (F := F) c) := by
  unfold linear credits bufs args locs extra pieces₀
  iintro ⟨HO, ⟨Hab, Hd0, Hd1, Hd2, Ht, He⟩, ⟨Hcb, Hc⟩, ⟨Hx, Hw, Hr, Hg, Hp, Hq⟩, ⟨Ha, Hb⟩, ⟨Hv0, Hv1⟩, Hout⟩
  ihave Hx := (split4_ex (F := F) (ℓ := xM.view.loc (c : Thread nD τ)) (xrows_mem c) (xrows_dis c)) $$ Hx
  icases Hx with ⟨Hxr0, Hxr1, Hxr2, Hxr3⟩
  ihave Hxr0 := (split2_ex (F := F) (ℓ := xM.view.loc (c : Thread nD τ)) (xcols_mem (row c 0) 1024) (xcols_dis (row c 0) 1024)) $$ Hxr0
  icases Hxr0 with ⟨Hx0_0, Hx0_512⟩
  ihave Hxr1 := (split2_ex (F := F) (ℓ := xM.view.loc (c : Thread nD τ)) (xcols_mem (row c 1) 1024) (xcols_dis (row c 1) 1024)) $$ Hxr1
  icases Hxr1 with ⟨Hx1_0, Hx1_512⟩
  ihave Hxr2 := (split2_ex (F := F) (ℓ := xM.view.loc (c : Thread nD τ)) (xcols_mem (row c 2) 1024) (xcols_dis (row c 2) 1024)) $$ Hxr2
  icases Hxr2 with ⟨Hx2_0, Hx2_512⟩
  ihave Hxr3 := (split2_ex (F := F) (ℓ := xM.view.loc (c : Thread nD τ)) (xcols_mem (row c 3) 1024) (xcols_dis (row c 3) 1024)) $$ Hxr3
  icases Hxr3 with ⟨Hx3_0, Hx3_512⟩
  ihave Hw := (split4_ex (F := F) (ℓ := wM.view.loc (c : Thread nD τ)) (wrows_mem c) (wrows_dis c)) $$ Hw
  icases Hw with ⟨Hw0, Hw1, Hw2, Hw3⟩
  ihave Hr := (split4_ex (F := F) (ℓ := rM.view.loc (c : Thread nD τ)) slots_mem slots_dis) $$ Hr
  icases Hr with ⟨Hr0, Hr1, Hr2, Hre⟩
  ihave Hq := (split4_ex (F := F) (ℓ := qM.view.loc (c : Thread nD τ)) qslots_mem qslots_dis) $$ Hq
  icases Hq with ⟨Hq0, Hq1, Hq2, Hqe⟩
  ihave Hg := (split2_ex (F := F) (ℓ := gM.view.loc (c : Thread nD τ)) slabs_mem slabs_dis) $$ Hg
  icases Hg with ⟨Hg0, Hg1⟩
  ihave Hp := (split2_ex (F := F) (ℓ := pM.view.loc (c : Thread nD τ)) prows_mem prows_dis) $$ Hp
  icases Hp with ⟨Hp, Hpe⟩
  ihave Ha := (a_shares m c).1 $$ Ha
  icases Ha with ⟨Ha0, Ha1⟩
  ihave Hb := (b_shares m c).1 $$ Hb
  icases Hb with ⟨Hb0, Hb1⟩
  ihave Ht := (Entails.of_eq (bigSep_eleven _)) $$ Ht
  icases Ht with ⟨Ht0, Ht1, Ht2, Ht3, Ht4, Ht5, Ht6, Ht7, Ht8, Ht9, Ht10⟩
  ihave He := (exps c) $$ [$Hc $He]
  ihave He := (Entails.of_eq (bigSep_eleven _)) $$ He
  icases He with ⟨He0, He1, He2, He3, He4, He5, He6, He7, He8, He9, He10⟩
  iframe HO Ha0 Ha1 Hab Hb0 Hb1 Hcb Hd0 Hd1 Hd2 He0 He1 He10 He2 He3 He4 He5 He6 He7 He8 He9 Hg0 Hg1 Hout Hp Hq0 Hq1 Hq2 Hr0 Hr1 Hr2 Ht0 Ht1 Ht10 Ht2 Ht3 Ht4 Ht5 Ht6 Ht7 Ht8 Ht9 Hv0 Hv1 Hw0 Hw1 Hw2 Hw3 Hx0_0 Hx0_512 Hx1_0 Hx1_512 Hx2_0 Hx2_512 Hx3_0 Hx3_512 Hpe Hqe Hre

set_option maxHeartbeats 1600000 in
theorem close_pieces (c : Dev nD) :
    iprop(pieces₁ m c ∗ extra (F := F) c)
      ⊢ iprop(oP c Finset.univ (o3 m c) ∗ Ow c 14 ∗ bufs (F := F) c ∗ args m c ∗ locs (F := F) c
          ∗ bigSep Finset.univ fun k : Fin 23 => semVal (kcell c k) 0) := by
  rw [bigSep_cells]
  unfold bufs args locs extra pieces₁
  iintro ⟨⟨HL10, HL2, HL3, HL4, HL5, HL8, HL9, HLs0, HLs1, HO, Ha0, Ha1, Hb0, Hb1, Hbv, Hg0, Hg1, Hout, Hp10, Hp8, Hp9, Hv0, Hv1, Hw0, Hw1, Hw2, Hw3, Hx0, Hx1_0, Hx1_512, Hx3_0, Hx3_512, Hxq0, Hxq256, Hxq512, Hxq768, Hzr0, Hzr1, Hzr10, Hzr2, Hzr3, Hzr4, Hzr5, Hzr6, Hzr7, Hzr8, Hzr9, Hzs0, Hzs1, Hzs10, Hzs2, Hzs3, Hzs4, Hzs5, Hzs6, Hzs7, Hzs8, Hzs9⟩, Hpe, Hqe, Hre⟩
  ihave Hx1 := (split2 (F := F) (ℓ := xM.view.loc (c : Thread nD τ)) (xcols_mem (row c 1) 1024) (xcols_dis (row c 1) 1024)).2 $$ [$Hx1_0 $Hx1_512]
  ihave Hx3 := (split2 (F := F) (ℓ := xM.view.loc (c : Thread nD τ)) (xcols_mem (row c 3) 1024) (xcols_dis (row c 3) 1024)).2 $$ [$Hx3_0 $Hx3_512]
  ihave Hx2 := (split4 (F := F) (ℓ := xM.view.loc (c : Thread nD τ)) (xquart_mem (row c 2)) (xquart_dis (row c 2))).2 $$ [$Hxq0 $Hxq256 $Hxq512 $Hxq768]
  ihave Hx := (split4 (F := F) (ℓ := xM.view.loc (c : Thread nD τ)) (xrows_mem c) (xrows_dis c)).2 $$ [$Hx0 $Hx1 $Hx2 $Hx3]
  ihave Hw := (split4 (F := F) (ℓ := wM.view.loc (c : Thread nD τ)) (wrows_mem c) (wrows_dis c)).2 $$ [$Hw0 $Hw1 $Hw2 $Hw3]
  ihave HLs2 := (split4 (F := F) (ℓ := rM.view.loc (c : Thread nD τ)) rquart_mem rquart_dis).2 $$ [$HL2 $HL3 $HL4 $HL5]
  ihave Hr := (close_r m c) $$ [$HLs0 $HLs1 $HLs2 $Hre]
  ihave Hq := (close_q m c) $$ [$HL8 $HL9 $HL10 $Hqe]
  ihave Hg := (join2_ex (F := F) (ℓ := gM.view.loc (c : Thread nD τ)) slabs_mem slabs_dis) $$ [$Hg0 $Hg1]
  ihave Hp := (to_shares m c).2 $$ [$Hp8 $Hp9 $Hp10]
  ihave Hp := (close_p m c) $$ [$Hp $Hpe]
  ihave Ha := (a_shares m c).2 $$ [$Ha0 $Ha1]
  ihave Hb := (b_shares m c).2 $$ [$Hb0 $Hb1]
  ihave Hx := (to_ex (ℓ := xM.view.loc (c : Thread nD τ)) _) $$ Hx
  ihave Hw := (to_ex (ℓ := wM.view.loc (c : Thread nD τ)) _) $$ Hw
  iframe Hout HO Hx Hw Hr Hg Hp Hq Ha Hb Hv0 Hv1 Hbv Hzs0 Hzs1 Hzs2 Hzs3 Hzs4 Hzs5 Hzs6 Hzs7 Hzs8 Hzs9 Hzs10 Hzr0 Hzr1 Hzr2 Hzr3 Hzr4 Hzr5 Hzr6 Hzr7 Hzr8 Hzr9 Hzr10

/-- The whole body. -/
theorem body (c : Dev nD) {Q : PUnit → sProp 𝕄} :
    iprop(Recs m K ∗ Ow c 0 ∗ linear (F := F) c ∗ credits (F := F) c ∗ bufs (F := F) c ∗ args m c ∗ locs (F := F) c ∗ ∃ f, oP (F := F) c Finset.univ f)
      ⊢ iprop((iprop(oP c Finset.univ (outF m c) ∗ Ow c 14 ∗ bufs (F := F) c ∗ args m c ∗ locs (F := F) c
            ∗ bigSep Finset.univ fun k : Fin 23 => semVal (kcell c k) 0) -∗ Q ⟨⟩)
          -∗ WP c (cc0_body (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10) Q) := by
  rw [cc0_body_eq_skeleton]; unfold cc0_body_skel
  unfold WP; rw [wp_bind]
  iintro ⟨#HR, H⟩ Hk
  ihave H := (open_pieces m c) $$ H
  icases H with ⟨H, Hex⟩
  iapply (part22 m K c) $$ [$HR $H]
  iintro H
  ihave H := (close_pieces m c) $$ [$H $Hex]
  icases H with ⟨Hout, H⟩
  simp only [Prog.lift, Prog.bind_op, Prog.bind_ret, Prog.pure_eq_ret]
  ihave Hout := (to_ex (ℓ := oM.view.loc (c : Thread nD τ)) (o3 m c)) $$ Hout
  iapply (wp_load_any c (M := oM) (r := Rect.unit (s := S1024x2048) ![0, 0] S1024x2048.size inb_S1024x2048_S1024x2048_0_0) (S := Finset.univ) (Finset.subset_univ _)) $$ Hout
  iintro %_ Hout
  iapply (wp_storeO c (show k0_pay1 (k0_pay37 (mx2 m c) (lda m c 2)) (k0_pay38 (o3 m c)) (k0_pay39 (mx2 m c) (lda m c 2)) = outF m c from rfl)) $$ Hout
  iintro Hout
  iapply le_wp_ret
  iapply Hk
  iframe Hout H

end Cert.KernelIdeal.Mesh

end
-- ==== Proof.KernelIdeal.Launch.lean ====
/-
The launch: the semaphores opened as cells, the tokens dealt around the mesh, the credits.
-/
module

public import proofs.«01_k».proof.Proof.KernelIdeal.Whole

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

section Launch

abbrev osem : Fin 30 → SemLoc sig := fun k => .dma ⟨1 + k.val, by have := k.isLt; show 1 + k.val < 31; omega⟩

theorem ownSemFacts : Pipeline.OwnSemFacts cfg0.spec osem := by decide

/-- The counters of the kernel's semaphores that nothing uses. -/
def spare (c : Dev nD) : sProp 𝕄 :=
  iprop(semVal ((c : Thread nD τ), .dma 18) 0 ∗ semVal ((c : Thread nD τ), .dma 20) 0 ∗ semVal ((c : Thread nD τ), .dma 22) 0 ∗ semVal ((c : Thread nD τ), .dma 24) 0 ∗ semVal ((c : Thread nD τ), .dma 26) 0 ∗ semVal ((c : Thread nD τ), .dma 28) 0)

omit [FloatOps F] in
theorem ownSems0_eq (c : Dev nD) : (Pipeline.ownSems0 (Ix := Unit) (Name := ℕ) (U := UU) (Lvl := ℕ) (Val := Elt F) (τ := τ) osem c : sProp 𝕄)
    = iprop(semVal ((c : Thread nD τ), .dma 1) 0 ∗ semVal ((c : Thread nD τ), .dma 2) 0 ∗ semVal ((c : Thread nD τ), .dma 3) 0 ∗ semVal ((c : Thread nD τ), .dma 4) 0 ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 9) 0 ∗ semVal ((c : Thread nD τ), .dma 10) 0 ∗ semVal ((c : Thread nD τ), .dma 11) 0 ∗ semVal ((c : Thread nD τ), .dma 12) 0 ∗ semVal ((c : Thread nD τ), .dma 13) 0 ∗ semVal ((c : Thread nD τ), .dma 14) 0 ∗ semVal ((c : Thread nD τ), .dma 15) 0 ∗ semVal ((c : Thread nD τ), .dma 16) 0 ∗ semVal ((c : Thread nD τ), .dma 17) 0 ∗ semVal ((c : Thread nD τ), .dma 18) 0 ∗ semVal ((c : Thread nD τ), .dma 19) 0 ∗ semVal ((c : Thread nD τ), .dma 20) 0 ∗ semVal ((c : Thread nD τ), .dma 21) 0 ∗ semVal ((c : Thread nD τ), .dma 22) 0 ∗ semVal ((c : Thread nD τ), .dma 23) 0 ∗ semVal ((c : Thread nD τ), .dma 24) 0 ∗ semVal ((c : Thread nD τ), .dma 25) 0 ∗ semVal ((c : Thread nD τ), .dma 26) 0 ∗ semVal ((c : Thread nD τ), .dma 27) 0 ∗ semVal ((c : Thread nD τ), .dma 28) 0 ∗ semVal ((c : Thread nD τ), .dma 29) 0 ∗ semVal ((c : Thread nD τ), .dma 30) 0) := by
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide)]; rfl
omit [FloatOps F] in
theorem unscopedSems0_eq (c : Dev nD) : (unscopedSems0 c : sProp 𝕄) = semVal (kcell c 0) 0 := by
  unfold unscopedSems0; rw [bigSep_eq_bigSepL_of_eq [SemLoc.reg barS] (by decide) (by decide)]; rfl

omit [FloatOps F] in
theorem cells_list (c : Dev nD) : (bigSep Finset.univ fun k : Fin 23 => (semVal (kcell c k) 0 : sProp 𝕄))
    = iprop(semVal (kcell c 0) 0 ∗ semVal ((c : Thread nD τ), .dma 1) 0 ∗ semVal ((c : Thread nD τ), .dma 2) 0 ∗ semVal ((c : Thread nD τ), .dma 3) 0 ∗ semVal ((c : Thread nD τ), .dma 4) 0 ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 17) 0 ∗ semVal ((c : Thread nD τ), .dma 19) 0 ∗ semVal ((c : Thread nD τ), .dma 21) 0 ∗ semVal ((c : Thread nD τ), .dma 9) 0 ∗ semVal ((c : Thread nD τ), .dma 10) 0 ∗ semVal ((c : Thread nD τ), .dma 11) 0 ∗ semVal ((c : Thread nD τ), .dma 12) 0 ∗ semVal ((c : Thread nD τ), .dma 13) 0 ∗ semVal ((c : Thread nD τ), .dma 14) 0 ∗ semVal ((c : Thread nD τ), .dma 15) 0 ∗ semVal ((c : Thread nD τ), .dma 16) 0 ∗ semVal ((c : Thread nD τ), .dma 23) 0 ∗ semVal ((c : Thread nD τ), .dma 25) 0 ∗ semVal ((c : Thread nD τ), .dma 27) 0) :=
  (bigSep_cells _).trans rfl

omit [FloatOps F] in
theorem sems_deal (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 23 => semVal (kcell c k) 0) ∗ locs (F := F) c ∗ spare (F := F) c) := by
  rw [ownSems0_eq, unscopedSems0_eq, cells_list]
  unfold spare locs
  iintro ⟨⟨Hn1, Hn2, Hn3, Hn4, Hn5, Hn6, Hn7, Hn8, Hn9, Hn10, Hn11, Hn12, Hn13, Hn14, Hn15, Hn16, Hn17, Hn18, Hn19, Hn20, Hn21, Hn22, Hn23, Hn24, Hn25, Hn26, Hn27, Hn28, Hn29, Hn30⟩, Hbar⟩
  iframe Hbar Hn1 Hn2 Hn3 Hn4 Hn5 Hn6 Hn7 Hn8 Hn17 Hn19 Hn21 Hn9 Hn10 Hn11 Hn12 Hn13 Hn14 Hn15 Hn16 Hn23 Hn25 Hn27 Hn29 Hn30 Hn18 Hn20 Hn22 Hn24 Hn26 Hn28

omit [FloatOps F] in
theorem sems_back (c : Dev nD) :
    iprop((bigSep Finset.univ fun k : Fin 23 => semVal (kcell c k) 0) ∗ locs (F := F) c ∗ spare (F := F) c)
      ⊢ iprop(unscopedSems0 c ∗ Pipeline.ownSems0 (Ix := Unit) (Name := ℕ) (U := UU) (Lvl := ℕ) (Val := Elt F) (τ := τ) osem c) := by
  rw [ownSems0_eq, unscopedSems0_eq, cells_list]
  unfold spare locs
  iintro ⟨⟨Hbar, Hn1, Hn2, Hn3, Hn4, Hn5, Hn6, Hn7, Hn8, Hn17, Hn19, Hn21, Hn9, Hn10, Hn11, Hn12, Hn13, Hn14, Hn15, Hn16, Hn23, Hn25, Hn27⟩, ⟨Hn29, Hn30⟩, Hn18, Hn20, Hn22, Hn24, Hn26, Hn28⟩
  iframe Hbar Hn1 Hn2 Hn3 Hn4 Hn5 Hn6 Hn7 Hn8 Hn9 Hn10 Hn11 Hn12 Hn13 Hn14 Hn15 Hn16 Hn17 Hn18 Hn19 Hn20 Hn21 Hn22 Hn23 Hn24 Hn25 Hn26 Hn27 Hn28 Hn29 Hn30

/-! ### The tokens -/

theorem kcell_injective : Function.Injective fun ck : Dev nD × Fin 23 => kcell ck.1 ck.2 := by
  rintro ⟨c, k⟩ ⟨c', k'⟩ h
  have h1 : c = c' := congrArg (fun g : GSem nD τ sig => g.1.1) h
  have h2 : k = k' := csem_injective (congrArg Prod.snd h)
  rw [h1, h2]
def meshCells : Finset (GSem nD τ sig) := Finset.univ.map ⟨fun ck : Dev nD × Fin 23 => kcell ck.1 ck.2, kcell_injective⟩

/-- The duties of one device's cells: the barrier's three, one of each other cell. -/
abbrev dutyOf : Fin 25 → Fin 23 × Fin 3 := fun i => if h : i.val < 3 then (0, ⟨i.val, h⟩) else (⟨i.val - 2, by have := i.isLt; omega⟩, 0)
theorem dutyOf_injective : Function.Injective dutyOf := by decide
abbrev tokOf (ci : Dev nD × Fin 25) : GSem nD τ sig × ℕ × Fin 3 := (kcell ci.1 (dutyOf ci.2).1, 0, (dutyOf ci.2).2)
theorem tokOf_injective : Function.Injective (tokOf : Dev nD × Fin 25 → GSem nD τ sig × ℕ × Fin 3) := by
  rintro ⟨c, i⟩ ⟨c', i'⟩ h
  have h1 := kcell_injective (a₁ := (c, (dutyOf i).1)) (a₂ := (c', (dutyOf i').1)) (congrArg Prod.fst h)
  have h2 : (dutyOf i).2 = (dutyOf i').2 := congrArg (fun x : GSem nD τ sig × ℕ × Fin 3 => x.2.2) h
  have h3 : i = i' := dutyOf_injective (Prod.ext (congrArg (fun x : Dev nD × Fin 23 => x.2) h1) h2)
  have h4 : c = c' := congrArg (fun x : Dev nD × Fin 23 => x.1) h1
  rw [h3, h4]
def meshToks : Finset (GSem nD τ sig × ℕ × Fin 3) := Finset.univ.map ⟨tokOf, tokOf_injective⟩

def u₀ : UU :=
  (initOf (Pipeline.cells cfgs cellOf_inj) (Pipeline.launchToks cfgs cellOf_inj), (initOf meshCells meshToks, 1))

/-- The duty tokens of device `c`'s own cells. -/
def toks (c : Dev nD) : sProp 𝕄 :=
  iprop((bigSep Finset.univ fun s : Fin 3 => dutyTok ER (kcell c 0) 0 s) ∗ (bigSep Finset.univ fun j : Fin 11 => dutyTok ER (kcell c (sK j)) 0 0)
    ∗ bigSep Finset.univ fun j : Fin 11 => dutyTok ER (kcell c (rK j)) 0 0)

theorem toks_list (c : Dev nD) : (bigSep Finset.univ fun i : Fin 25 => (dutyTok ER (kcell c (dutyOf i).1) 0 (dutyOf i).2 : sProp 𝕄)) ⊢ toks (F := F) c := by
  unfold toks
  rw [bigSep_univ_eq_bigSepL [0, 1, 2, 3, 4, 5, 6, 7, 8, 9, 10, 11, 12, 13, 14, 15, 16, 17, 18, 19, 20, 21, 22, 23, 24] (by decide) (by decide), bigSep_three, bigSep_eleven, bigSep_eleven]
  show iprop(dutyTok ER (kcell c 0) 0 0 ∗ dutyTok ER (kcell c 0) 0 1 ∗ dutyTok ER (kcell c 0) 0 2 ∗ dutyTok ER (kcell c (sK 0)) 0 0 ∗ dutyTok ER (kcell c (sK 1)) 0 0 ∗ dutyTok ER (kcell c (sK 2)) 0 0 ∗ dutyTok ER (kcell c (sK 3)) 0 0 ∗ dutyTok ER (kcell c (sK 4)) 0 0 ∗ dutyTok ER (kcell c (sK 5)) 0 0 ∗ dutyTok ER (kcell c (sK 6)) 0 0 ∗ dutyTok ER (kcell c (sK 7)) 0 0 ∗ dutyTok ER (kcell c (sK 8)) 0 0 ∗ dutyTok ER (kcell c (sK 9)) 0 0 ∗ dutyTok ER (kcell c (sK 10)) 0 0 ∗ dutyTok ER (kcell c (rK 0)) 0 0 ∗ dutyTok ER (kcell c (rK 1)) 0 0 ∗ dutyTok ER (kcell c (rK 2)) 0 0 ∗ dutyTok ER (kcell c (rK 3)) 0 0 ∗ dutyTok ER (kcell c (rK 4)) 0 0 ∗ dutyTok ER (kcell c (rK 5)) 0 0 ∗ dutyTok ER (kcell c (rK 6)) 0 0 ∗ dutyTok ER (kcell c (rK 7)) 0 0 ∗ dutyTok ER (kcell c (rK 8)) 0 0 ∗ dutyTok ER (kcell c (rK 9)) 0 0 ∗ dutyTok ER (kcell c (rK 10)) 0 0) ⊢ _
  iintro ⟨H0, H1, H2, H3, H4, H5, H6, H7, H8, H9, H10, H11, H12, H13, H14, H15, H16, H17, H18, H19, H20, H21, H22, H23, H24⟩
  iframe H0 H1 H2 H3 H4 H5 H6 H7 H8 H9 H10 H11 H12 H13 H14 H15 H16 H17 H18 H19 H20 H21 H22 H23 H24

/-- What the launch deals device `c`, -/
def G (c : Dev nD) : sProp 𝕄 :=
  iprop((bigSep Finset.univ fun k : Fin 23 => roundState ER (meshRd m) (kcell c k) 0)
    ∗ (bigSep Finset.univ fun k : Fin 23 => iprop(atPos ER (kcell c k) 0 ∅ 0 ∗ reached ER (kcell c k) 0)) ∗ toks c)

/-- the records every device shares, -/
def records (K : Dev nD × Fin 23 → ℕ) : sProp 𝕄 :=
  iprop((bigSep Finset.univ fun ck : Dev nD × Fin 23 => cellInv ER (meshRd m) (K ck) (kcell ck.1 ck.2))
    ∗ bigSep Finset.univ fun ck : Dev nD × Fin 23 => reached ER (kcell ck.1 ck.2) 0)
instance records_persistent (K : Dev nD × Fin 23 → ℕ) : BI.Persistent (records m K) := by unfold records; infer_instance

/-- and what it has once the cells are open. -/
def G' (c : Dev nD) : sProp 𝕄 := iprop(∃ K, records m K ∗ linear (F := F) c ∗ locs (F := F) c ∗ spare (F := F) c)

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Fin 23 => Φ (kcell c k) := by
    unfold meshCells; rw [bigSep_map, bigSep_univ_prod]; rfl
  have hT : bigSep meshToks (fun x => (dutyTok ER x.1 x.2.1 x.2.2 : sProp 𝕄)) ⊢ bigSep Finset.univ fun c : Dev nD => toks c := by
    unfold meshToks; rw [bigSep_map, bigSep_univ_prod]
    exact bigSep_mono fun c _ => toks_list c
  iintro HX
  imod (Rounds.fund ER (meshRd m) meshCells meshToks) $$ HX with ⟨Hst, Hr, Hat, Htok⟩
  imodintro
  ihave Hst' := (Entails.of_eq (hX fun g => roundState ER (meshRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  iframe Hst' Hat' Hr' Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (meshRd m) κ (kcell c k)))
          ∗ (bigSep Finset.univ fun k => iprop(atPos ER (kcell c k) 0 ∅ 0 ∗ reached ER (kcell c k) 0)) ∗ toks c ∗ locs (F := F) c ∗ spare (F := F) c) := by
  unfold G
  iintro ⟨Hos, Hus, Hst, Hat, Htok⟩
  ihave Hv := (sems_deal (F := F) c) $$ [$Hos $Hus]
  icases Hv with ⟨Hv, Hl, Hsp⟩
  imod (show iprop((bigSep Finset.univ fun k : Fin 23 => semVal (kcell c k) 0) ∗ bigSep Finset.univ fun k : Fin 23 => roundState ER (meshRd m) (kcell c k) 0)
      ⊢ (|={Set.univ}=> bigSep Finset.univ fun k => iprop(∃ κ : ℕ, cellInv ER (meshRd m) κ (kcell c k)) : sProp 𝕄) from by
        rw [← bigSep_sep']
        exact (bigSep_mono fun k _ => (Rounds.body_intro ER (meshRd m) (kcell c k)).trans inv_alloc).trans (bigSep_fupd _ _)) $$ [Hv Hst] with Hinv
  · iframe Hv Hst
  imodintro
  iframe Hinv Hat Htok Hl Hsp

/-- Tokens dealt around the mesh: the one at place `i` goes from each device to another, a permutation of the devices. -/
theorem around {I : Type} [Fintype I] [DecidableEq I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [Idealize.SL.BI.bigSep_univ_comm, Idealize.SL.BI.bigSep_univ_comm (fun c i => Φ (e i c) i)]
  exact bigSep_congr fun i _ => bigSep_univ_equiv (e i) (fun c => Φ c i)

def dstE (s : Fin 3) : Dev nD ≃ Dev nD := ⟨dst s, src s, src_dst s, dst_src s⟩
def srcE (s : Fin 3) : Dev nD ≃ Dev nD := ⟨src s, dst s, dst_src s, src_dst s⟩

def payToks (c : Dev nD) : sProp 𝕄 :=
  iprop((bigSep Finset.univ fun s : Fin 3 => dutyTok ER (kcell (src s c) 0) 0 s) ∗ (bigSep Finset.univ fun j : Fin 11 => dutyTok ER (kcell c (sK j)) 0 0)
    ∗ bigSep Finset.univ fun j : Fin 11 => dutyTok ER (kcell (dst (jSlot j) c) (rK j)) 0 0)

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around srcE (fun c s => (dutyTok ER (kcell c 0) 0 s : sProp 𝕄)),
    around (fun j => dstE (jSlot j)) (fun c j => (dutyTok ER (kcell c (rK j)) 0 0 : sProp 𝕄))]
  exact Entails.of_eq rfl

omit [FloatOps F] in
theorem split_cells (Φ : Fin 23 → sProp 𝕄) : bigSep Finset.univ Φ
    ⊢ iprop(Φ 0 ∗ (bigSep Finset.univ fun j : Fin 11 => Φ (sK j)) ∗ bigSep Finset.univ fun j : Fin 11 => Φ (rK j)) := by
  rw [bigSep_cells, bigSep_eleven, bigSep_eleven]
  iintro ⟨H0, H1, H2, H3, H4, H5, H6, H7, H8, H9, H10, H11, H12, H13, H14, H15, H16, H17, H18, H19, H20, H21, H22⟩
  iframe H0 H1 H2 H3 H4 H5 H6 H7 H8 H9 H10 H11 H12 H13 H14 H15 H16 H17 H18 H19 H20 H21 H22

theorem linear_intro (c : Dev nD) : iprop((bigSep Finset.univ fun k : Fin 23 => atPos ER (kcell c k) 0 ∅ 0) ∗ payToks (F := F) c) ⊢ linear (F := F) c := by
  unfold payToks linear Tok
  rw [bigSep_sep', bigSep_sep', bigSep_three]
  iintro ⟨Hat, ⟨H0, H1, H2⟩, Hs, Hr⟩
  ihave Hat := (split_cells (F := F) _) $$ Hat
  icases Hat with ⟨Hb, Has, Har⟩
  iframe Hb H0 H1 H2 Hs Hr Has Har

theorem regroup :
    (bigSep Finset.univ fun c : Dev nD => iprop((bigSep Finset.univ fun k => iprop(∃ κ : ℕ, cellInv ER (meshRd m) κ (kcell c k)))
          ∗ (bigSep Finset.univ fun k => iprop(atPos ER (kcell c k) 0 ∅ 0 ∗ reached ER (kcell c k) 0)) ∗ toks c ∗ locs (F := F) c ∗ spare (F := F) c) : sProp 𝕄)
      ⊢ bigSep Finset.univ (G' m) := by
  rw [bigSep_sep', bigSep_sep', bigSep_sep', bigSep_sep', ← bigSep_univ_prod (fun ck : Dev nD × Fin 23 => iprop(∃ κ : ℕ, cellInv ER (meshRd m) κ (kcell ck.1 ck.2))),
    bigSep_congr (s := Finset.univ) (fun (c : Dev nD) _ => bigSep_sep' Finset.univ (fun k : Fin 23 => (atPos ER (kcell c k) 0 ∅ 0 : sProp 𝕄)) (fun k => reached ER (kcell c k) 0)),
    bigSep_sep', ← bigSep_univ_prod (fun ck : Dev nD × Fin 23 => (reached ER (kcell ck.1 ck.2) 0 : sProp 𝕄))]
  iintro ⟨HI, ⟨Hat, #HR⟩, Htok, Hls⟩
  ihave HK := (BI.bigSep_exists_pi Finset.univ (fun (ck : Dev nD × Fin 23) (κ : ℕ) => (cellInv ER (meshRd m) κ (kcell ck.1 ck.2) : sProp 𝕄))) $$ HI
  icases HK with ⟨%K, #HI⟩
  ihave Htk := (toks_around (F := F)) $$ Htok
  iapply (bigSep_with_persistent (R := records m K)
    (Φ := fun c => iprop(((bigSep Finset.univ fun k : Fin 23 => atPos ER (kcell c k) 0 ∅ 0) ∗ payToks (F := F) c) ∗ locs (F := F) c ∗ spare (F := F) c)) fun c _ => by
      unfold G'
      iintro ⟨#H, Hl, Hs⟩
      iexists K
      ihave Hl := (linear_intro (F := F) c) $$ Hl
      iframe H Hl Hs)
  isplitr
  · unfold records; isplitl; · iexact HI
    iexact HR
  · rw [bigSep_sep', bigSep_sep', bigSep_sep']
    iframe Hat Htk Hls

/-- The semaphores of every device at once, opened as cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- A debt list's amount at a cell: the cell's amount as often as the cell is listed. -/
theorem owL_at (l : List (Dev nD × Fin 23)) (c : Dev nD) (k : Fin 23) : owL l (kcell c k) () = l.count (c, k) * amtK k.castSucc := by
  induction l with
  | nil => rw [List.count_nil, Nat.zero_mul]; rfl
  | cons p ps ih =>
    unfold owL
    rw [Pi.add_apply, Finsupp.add_apply, tallyAt_apply, ih, List.count_cons]
    by_cases h : p = (c, k)
    · subst h; rw [if_pos ⟨rfl, rfl⟩, beq_self_eq_true, if_pos rfl, Nat.add_mul, Nat.one_mul]
    · rw [if_neg (fun h' => h (kcell_injective (a₁ := p) (a₂ := (c, k)) h'.1.symm)), if_neg (by rw [beq_iff_eq]; exact h), Nat.add_zero, Nat.add_zero]

theorem count_debts (c : Dev nD) (k : Fin 23) : ∑ d : Dev nD, (debts d).count (c, k) = if k.val = 0 then 3 else if k.val < 12 then 0 else 1 := by
  revert c k; decide +kernel

theorem launch_cell (c : Dev nD) (k : Fin 23) :
    tallyOn (kcell c k) (launchCredit (Pipeline.owing fun d => debt d 0) 0 (kcell c k))
      = (tallyAt (kcell c k) () ((if k.val = 0 then 3 else if k.val < 12 then 0 else 1) * amtK k.castSucc) : CellTallies nD τ sig Unit) := by
  unfold tallyAt; refine congrArg _ (Finsupp.ext fun u => ?_); cases u
  rw [Pipeline.launchCredit_owing, Finsupp.single_eq_same, ← count_debts c k, Finset.sum_mul]
  exact Finset.sum_congr rfl fun d _ => owL_at (debts d) c k

theorem creds (c : Dev nD) : (Pipeline.launchCred (fun d => debt d 0) c : sProp 𝕄) ⊢ credits (F := F) c := by
  unfold Pipeline.launchCred
  refine (bigSep_subset (t := Finset.univ.map ⟨csem, csem_injective⟩) (Finset.subset_univ _)).trans ?_
  rw [bigSep_map]
  refine (split_cells (F := F) _).trans ?_
  unfold credits
  iintro ⟨H0, -, Hr⟩
  ihave H0 := (Entails.of_eq (congrArg cred ((launch_cell c 0).trans (show _ = tallyAt (kcell c 0) () 3 from rfl)))) $$ H0
  ihave Hr := (show (bigSep Finset.univ fun j : Fin 11 => (cred (tallyOn (kcell c (rK j)) (launchCredit (Pipeline.owing fun d => debt d 0) 0 (kcell c (rK j)))) : sProp 𝕄))
      ⊢ bigSep Finset.univ fun j : Fin 11 => cred (tallyAt (kcell c (rK j)) () (amt j)) from
    bigSep_mono fun j _ => Entails.of_eq (congrArg cred ((launch_cell c (rK j)).trans (congrArg (tallyAt (kcell c (rK j)) ()) (by
      unfold amtK
      rw [if_neg (by simp [rK]), if_neg (by simp [rK]), if_neg (by simp [rK]), Nat.one_mul, jOf_rK]))))) $$ Hr
  iframe H0 Hr

end Launch

end Cert.KernelIdeal.Mesh

end
-- ==== Proof.KernelIdeal.Run.lean ====
/-
The run of @main on the four devices.
-/
module

public import proofs.«01_k».proof.Proof.KernelIdeal.Launch
public import Idealize.ShloMosaic.Lib.Pipeline.CollectiveSegs
public import Idealize.ShloMosaic.Lib.Pipeline.ValueKit.Geometry

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

section Run

/-- What the body is run from, beside its buffers. -/
def start (c : Dev nD) : sProp 𝕄 := iprop(G' m c ∗ credits (F := F) c ∗ levAts L lv ∗ args m c)
def Φ₀ (c : Dev nD) : sProp 𝕄 := iprop(start m c ∗ bufs (F := F) c)
def Φ₁ (c : Dev nD) : sProp 𝕄 :=
  iprop(bufs (F := F) c ∗ args m c ∗ locs (F := F) c ∗ spare (F := F) c ∗ bigSep Finset.univ fun k : Fin 23 => semVal (kcell c k) 0)

/-- What the one grid point leaves in the staging buffer, its resources and its debts. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m c
  Φ t := match t with
    | ⟨0, _⟩ => Φ₀ m c
    | ⟨_ + 1, _⟩ => Φ₁ m c
  q _ := fullShare
  owed t := match t with
    | ⟨0, _⟩ => debt c 0
    | ⟨_ + 1, _⟩ => 0

theorem owns_out (c : Dev nD) (X : (cc0_stg0_0 : Ref sig .tc).ty.Contents (Elt F)) :
    (owns (Ix := Unit) (Name := ℕ) (U := UU) (Lvl := ℕ) (c : Thread nD τ) (Memref.whole cc0_stg0_0) fullShare X : sProp 𝕄)
      = iprop(∃ f : FVec F S1024x2048 .f32, ⌜f = X⌝ ∗ oP (F := F) c Finset.univ f) := by
  unfold owns; simp only [Memref.view_whole, View.read_whole, View.set_whole]; rfl

def preB (c : Dev nD) : sProp 𝕄 :=
  iprop(Φ₀ m c ∗ (dats m ρ 0 c).owesAt () t0_0.castSucc
    ∗ ∃ d, ∃ f : FVec F S1024x2048 .f32, ⌜f = (dats m ρ 0 c).before (0 : Fin 1) t0_0 d⌝ ∗ oP (F := F) c Finset.univ f)
def postB (c : Dev nD) : sProp 𝕄 :=
  iprop(Φ₁ m c ∗ (dats m ρ 0 c).owesAt () t0_0.succ ∗ ∃ f : FVec F S1024x2048 .f32, ⌜f = outF m c⌝ ∗ oP (F := F) c Finset.univ f)

/-- The body from the launch's holdings. -/
theorem sound (c : Dev nD) :
    preB m ρ c ⊢ WP c (cc0_body (F := F) aM (Memref.isWhole_whole _) bM (Memref.isWhole_whole _) oM (Memref.isWhole_whole _) xM (Memref.isWhole_whole _) wM (Memref.isWhole_whole _) rM (Memref.isWhole_whole _) gM (Memref.isWhole_whole _) pM (Memref.isWhole_whole _) qM (Memref.isWhole_whole _) cc0_scratch6 cc0_scratch7 cc0_scratch8 cc0_scratch9 cc0_scratch10) (fun _ => postB m ρ c) := by
  unfold preB Φ₀ start G' records Dat.owesAt
  rw [show (dats m ρ 0 c).owed t0_0.castSucc = debt c 0 from rfl]
  iintro ⟨⟨⟨⟨%K, ⟨#HI, #HR⟩, Hlin, Hloc, Hsp⟩, Hcr, #Hlev, Harg⟩, Hbuf⟩, ⟨%W0, %hW0, HO⟩, ⟨%d0, %f0, -, Hout⟩⟩
  iapply (body m K c) $$ [Hlin Hcr Hbuf Harg Hloc HO Hout]
  · isplitr
    · unfold Recs
      isplitr; · iexact HI
      isplitr; · iexact HR
      iexact Hlev
    isplitl [HO]
    · unfold Ow; iexists W0; iexact HO
    isplitl [Hlin]; · iexact Hlin
    isplitl [Hcr]; · iexact Hcr
    isplitl [Hbuf]; · iexact Hbuf
    isplitl [Harg]; · iexact Harg
    isplitl [Hloc]; · iexact Hloc
    iexists f0; iexact Hout
  iintro ⟨Hout, HO, Hbuf, Harg, Hloc, Hz⟩
  unfold Ow
  icases HO with ⟨%W, HO⟩
  unfold postB Φ₁
  isplitl [Hbuf Harg Hloc Hsp Hz]
  · iframe Hbuf Harg Hloc Hsp Hz
  isplitl [HO]
  · unfold Dat.owesAt
    iexists W
    isplitr
    · ipureintro; exact fun _ _ => Or.inl trivial
    rw [show (dats m ρ 0 c).owed t0_0.succ = debt c 14 from rfl]
    iexact HO
  · iexists (outF m c)
    isplitr
    · ipureintro; rfl
    iexact Hout

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_out]
  exact sound m ρ c

theorem share_eq (c : Dev nD) (w : Fin cfg0.W) : (dats m ρ 0 c).share w = fullShare := by unfold Dat.share; split <;> rfl

/-! ### The side conditions of the launch -/

theorem start_intro (c : Dev nD) :
    iprop(Pipeline.unscopedRestP Pipeline.Prefetch.none cfg0.spec c (fun b => m ((c : Thread nD τ).loc b)) ∗ levAts L lv
        ∗ Pipeline.launchCred (fun d => debt d 0) c ∗ prngReg c (ρ c) ∗ G' m c)
      ⊢ |={Set.univ}=> iprop(start m c ∗ emp) := by
  rw [Pipeline.unscopedRestP_none, unscopedRest0_eq]
  iintro ⟨⟨Ha, Hb⟩, Hlev, Hcr, -, HG⟩
  ihave Hc := (creds (F := F) c) $$ Hcr
  imodintro
  unfold start args
  isplitl
  · isplitl [HG]; · iexact HG
    isplitl [Hc]; · iexact Hc
    isplitl [Hlev]; · iexact Hlev
    isplitl [Ha]; · iexact Ha
    iexact Hb
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, H⟩
  isplitl [Hs]; · iexact Hs
  iexact H

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, scopedRest0_eq]
  unfold Φ₁ bufs
  iintro ⟨Hr, Ha, Hl, Hsp, Hz⟩
  ihave H := (sems_back (F := F) c) $$ [$Hz $Hl $Hsp]
  icases H with ⟨Hu, Ho⟩
  isplitl [Hu Ha]
  · iframe Hu Ha
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait (F := F) c _ ((debts c).drop 0) (by
        have h : ∀ (w : Fin cfg0.W) (s : Fin (spec0 w).nbuf), lvK (kOf (.dma ((spec0 w).sem s) : SemLoc sig)) = 0 := by decide
        have := drop_lv c 0 0 (by decide)
        intro p hp
        exact lt_of_eq_of_lt (h w s) (this p hp))
    · show _ ⊢ MayWait (c : Thread nD τ) _ () 0
      rw [MayWait_zero]; iintro -; iempintro

/-! ### The run -/

theorem final_out (c : Dev nD) : (dats m ρ 0 c).arrAt (0 : Fin 1) cfg0.N = outF m c := by
  refine (dats m ρ 0 c).arrAt_eq_of_after_last (0 : Fin 1) t0_0 (by decide +kernel) _ fun j => ?_
  rfl

/-- What a device's memory holds at the end. -/
def QC (c : Dev nD) (s : MemSt nD τ sig (Elt F)) : Prop :=
  s.mem ((c : Thread nD τ).loc main_v1) = outF m c ∧ s.mem ((c : Thread nD τ).loc main_arg0) = m ((c : Thread nD τ).loc main_arg0)
    ∧ s.mem ((c : Thread nD τ).loc main_arg1) = m ((c : Thread nD τ).loc main_arg1)

set_option maxRecDepth 8000 in
/-- From any memory with zero counters, for any float values: every weakly fair execution of @main on the four devices
    terminates with each device's result at `outF`, its arguments unchanged and every counter at zero. -/
theorem run_main : θ_run defs (onTc (τ := τ) (main (F := F))) (s₀ m ρ) (fun r => (∀ c, QC m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => debt d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_mesh m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0) ∧ s.mem ((c : Thread nD τ).loc main_arg1) = m ((c : Thread nD τ).loc main_arg1))
    (hY := fun c s' => by
      unfold args
      iintro ⟨⟨Hu, Ha, Hb⟩, -, HSI⟩
      imod (Pipeline.unscopedSems0_read (X := unscopedSems0 c) (c := c) fupd_intro s') $$ [Hu HSI] with ⟨%hs, HSI⟩
      · isplitl [Hu] <;> iassumption
      icombine HSI Ha gives %ha
      icombine HSI Hb gives %hb
      imodintro
      isplitr
      · ipureintro; exact ⟨hs, Buf.eq_of_forall_mem_univ ha, Buf.eq_of_forall_mem_univ hb⟩
      iexact HSI)
    (hQ := fun _ h hs => ⟨fun c => ⟨((h c).1 0).trans (final_out m ρ c), (h c).2.2.2⟩, sem_eq_zero hs fun c => (h c).2.2.1⟩)

end Run

end Cert.KernelIdeal.Mesh

end
-- ==== Proof.Equation.Product.lean ====
/-
The output block of a device, as sums of products of the arguments' elements.
-/
module

public import proofs.«01_k».proof.Proof.KernelIdeal.Run
public import Idealize.ShloMosaic.Lib.Pointwise

@[expose] public section

noncomputable section

namespace Cert.KernelIdeal.Mesh

open Cert.KernelIdeal Cert.KernelIdeal.Gen
open Idealize.ShloMosaic Idealize.ShloMosaic.TcCoe

variable (m : (ℓ : Loc nD τ sig) → Buf (Elt Ideal) ℓ)

/-! ## The loads at an index -/

theorem ldx_apply (c : Dev nD) (r k : Fin 1024) :
    ldx m c (ix2 r k) = aF m c (ix2 ⟨row c 0 + r.val, row_lt c 0 r⟩ k) := by
  show aF m c _ = _
  refine congrArg (aF m c) (funext fun a => Fin.ext ?_)
  fin_cases a
  · show k0_off13 c 0 + 1 * r.val = row c 0 + r.val; rw [congrFun (off13 c) 0, one_mul]; rfl
  · show k0_off13 c 1 + 1 * k.val = k.val; rw [congrFun (off13 c) 1, one_mul]; exact zero_add _

theorem ldw0_apply (c : Dev nD) (k : Fin 1024) (l : Fin 2048) :
    ldw0 m c (ix2 k l) = bF m c (ix2 ⟨row c 0 + k.val, row_lt c 0 k⟩ l) := by
  show bF m c _ = _
  refine congrArg (bF m c) (funext fun a => Fin.ext ?_)
  fin_cases a
  · show k0_off12 c 0 + 1 * k.val = row c 0 + k.val; rw [congrFun (off12 c) 0, one_mul]; rfl
  · show k0_off12 c 1 + 1 * l.val = l.val; rw [congrFun (off12 c) 1, one_mul]; exact zero_add _

theorem ldw3_apply (c : Dev nD) (k : Fin 1024) (l : Fin 2048) :
    ldw3 m c (ix2 k l) = bF m c (ix2 ⟨row c 3 + k.val, row_lt c 3 k⟩ l) := by
  show bF m c _ = _
  refine congrArg (bF m c) (funext fun a => Fin.ext ?_)
  fin_cases a
  · show k0_off14 c 3#32 0 + 1 * k.val = row c 3 + k.val; rw [congrFun (off14_3 c) 0, one_mul]; rfl
  · show k0_off14 c 3#32 1 + 1 * l.val = l.val; rw [congrFun (off14_3 c) 1, one_mul]; exact zero_add _

theorem ldw1_apply (c : Dev nD) (k : Fin 1024) (l : Fin 2048) :
    ldw1 m c (ix2 k l) = bF m c (ix2 ⟨row c 1 + k.val, row_lt c 1 k⟩ l) := by
  show bF m c _ = _
  refine congrArg (bF m c) (funext fun a => Fin.ext ?_)
  fin_cases a
  · show k0_off14 c 1#32 0 + 1 * k.val = row c 1 + k.val; rw [congrFun (off14_1 c) 0, one_mul]; rfl
  · show k0_off14 c 1#32 1 + 1 * l.val = l.val; rw [congrFun (off14_1 c) 1, one_mul]; exact zero_add _

theorem ldw2_apply (c : Dev nD) (k : Fin 1024) (l : Fin 2048) :
    ldw2 m c (ix2 k l) = bF m c (ix2 ⟨row c 2 + k.val, row_lt c 2 k⟩ l) := by
  show bF m c _ = _
  refine congrArg (bF m c) (funext fun a => Fin.ext ?_)
  fin_cases a
  · show k0_off14 c 2#32 0 + 1 * k.val = row c 2 + k.val; rw [congrFun (off14_2 c) 0, one_mul]; rfl
  · show k0_off14 c 2#32 1 + 1 * l.val = l.val; rw [congrFun (off14_2 c) 1, one_mul]; exact zero_add _

theorem ldr_apply (c : Dev nD) (s : Fin 3) (r k : Fin 1024) :
    ldr m c s (ix3 0 r k) = aF m (src s c) (ix2 ⟨row c 0 + r.val, row_lt c 0 r⟩ k) := by
  show rF m c _ = rF m c (ix3 s r k)
  refine congrArg (rF m c) (funext fun a => Fin.ext ?_)
  fin_cases a
  · show s.val + 1 * 0 = s.val; omega
  · show 0 + 1 * r.val = r.val; omega
  · show 0 + 1 * k.val = k.val; omega

theorem ldq_apply (c : Dev nD) (q : Fin 4) (r : Fin 256) (k : Fin 1024) :
    ldq m c q (ix3 0 r k)
      = aF m (src 2 c) (ix2 ⟨row c 0 + (256 * q.val + r.val), row_lt c 0 ⟨256 * q.val + r.val, by omega⟩⟩ k) := by
  show rF m c _ = rF m c (ix3 2 ⟨256 * q.val + r.val, by omega⟩ k)
  refine congrArg (rF m c) (funext fun a => Fin.ext ?_)
  fin_cases a
  · show 2 + 1 * 0 = 2; omega
  · show 256 * q.val + 1 * r.val = 256 * q.val + r.val; omega
  · show 0 + 1 * k.val = k.val; omega

theorem ldo_apply (c : Dev nD) (q : Fin 4) (r : Fin 256) (l : Fin 2048) :
    ldo m c q (ix2 r l) = o2 m c (ix2 ⟨256 * q.val + r.val, by omega⟩ l) := by
  show o2 m c _ = _
  refine congrArg (o2 m c) (funext fun a => Fin.ext ?_)
  fin_cases a
  · show 256 * q.val + 1 * r.val = 256 * q.val + r.val; omega
  · show 0 + 1 * l.val = l.val; omega

theorem read_lda (f : FVec Ideal S3x2x128 .f32) (s : Fin 3) :
    (qM.access (Rect.unit (s := S3x2x128) ![s.val, 0, 0] S1x1x1.size (inb_lda s))).read (Elt Ideal) f (ix3 0 0 0)
      = f (ix3 s 0 0) := by
  show f _ = _
  refine congrArg f (funext fun a => Fin.ext ?_)
  fin_cases a
  · show s.val + 1 * 0 = s.val; omega
  · rfl
  · rfl

theorem lda_apply (c : Dev nD) (s : Fin 3) : lda m c s (ix3 0 0 0) = mx m (src s c) := by
  unfold lda
  rw [read_lda]
  unfold qF
  rfl

/-! ## The products at an index -/

theorem pay15_apply (x : Vec Ideal S1024x1024 .bf16) (w : Vec Ideal S1024x2048 .bf16) (r : Fin 1024) (l : Fin 2048) :
    k0_pay15 x w (ix2 r l) = ∑ k : Fin 1024, x (ix2 r k) * w (ix2 k l) := by
  pointwise [k0_pay15]

theorem pay19_apply (o : Vec Ideal S1024x2048 .f32) (x : Vec Ideal S1x1024x1024 .bf16) (w : Vec Ideal S1024x2048 .bf16) (r : Fin 1024) (l : Fin 2048) :
    k0_pay19 (k0_pay17 o) (k0_pay18 x w) (ix2 r l) = o (ix2 r l) + ∑ k : Fin 1024, x (ix3 0 r k) * w (ix2 k l) := by
  pointwise [k0_pay19, k0_pay17, k0_pay18]

theorem pay21_apply (o : Vec Ideal S1024x2048 .f32) (x : Vec Ideal S1x1024x1024 .bf16) (w : Vec Ideal S1024x2048 .bf16) (r : Fin 1024) (l : Fin 2048) :
    k0_pay21 o x w (ix2 r l) = o (ix2 r l) + ∑ k : Fin 1024, x (ix3 0 r k) * w (ix2 k l) := by
  pointwise [k0_pay21]

theorem pay23_apply (o : Vec Ideal S256x2048 .f32) (x : Vec Ideal S1x256x1024 .bf16) (w : Vec Ideal S1024x2048 .bf16) (r : Fin 256) (l : Fin 2048) :
    k0_pay23 o x w (ix2 r l) = o (ix2 r l) + ∑ k : Fin 1024, x (ix3 0 r k) * w (ix2 k l) := by
  pointwise [k0_pay23]

theorem pay27_apply (o : Vec Ideal S256x2048 .f32) (x : Vec Ideal S1x256x1024 .bf16) (w : Vec Ideal S1024x2048 .bf16) (r : Fin 256) (l : Fin 2048) :
    k0_pay27 (k0_pay25 o) (k0_pay26 x) w (ix2 r l) = o (ix2 r l) + ∑ k : Fin 1024, x (ix3 0 r k) * w (ix2 k l) := by
  pointwise [k0_pay27, k0_pay25, k0_pay26]

theorem pay29_apply (o : Vec Ideal S256x2048 .f32) (x : Vec Ideal S1x256x1024 .bf16) (w : Vec Ideal S1024x2048 .bf16) (r : Fin 256) (l : Fin 2048) :
    k0_pay29 o x w (ix2 r l) = o (ix2 r l) + ∑ k : Fin 1024, x (ix3 0 r k) * w (ix2 k l) := by
  pointwise [k0_pay29]

theorem pay31_apply (o : Vec Ideal S256x2048 .f32) (x : Vec Ideal S1x256x1024 .bf16) (w : Vec Ideal S1024x2048 .bf16) (r : Fin 256) (l : Fin 2048) :
    k0_pay31 o x w (ix2 r l) = o (ix2 r l) + ∑ k : Fin 1024, x (ix3 0 r k) * w (ix2 k l) := by
  pointwise [k0_pay31]

/-- The product of device `d`'s columns of `c`'s rows with rows `rw …` of `c`'s second factor, at row `r`, column `l`. -/
def part (c d : Dev nD) (k : ℕ) (r : Fin 1024) (l : Fin 2048) : EReal :=
  ∑ i : Fin 1024, aF m d (ix2 ⟨row c 0 + r.val, row_lt c 0 r⟩ i) * bF m c (ix2 ⟨row c k + i.val, row_lt c k i⟩ l)

theorem o0_apply (c : Dev nD) (r : Fin 1024) (l : Fin 2048) : o0 m c (ix2 r l) = part m c c 0 r l := by
  refine (pay15_apply _ _ r l).trans (Finset.sum_congr rfl fun i _ => ?_)
  rw [ldx_apply, ldw0_apply]

theorem o1_apply (c : Dev nD) (r : Fin 1024) (l : Fin 2048) :
    o1 m c (ix2 r l) = part m c c 0 r l + part m c (src 0 c) 3 r l := by
  refine (pay19_apply _ _ _ r l).trans ?_
  rw [o0_apply]
  refine congrArg _ (Finset.sum_congr rfl fun i _ => ?_)
  rw [ldr_apply, ldw3_apply]

theorem o2_apply (c : Dev nD) (r : Fin 1024) (l : Fin 2048) :
    o2 m c (ix2 r l) = part m c c 0 r l + part m c (src 0 c) 3 r l + part m c (src 1 c) 1 r l := by
  refine (pay21_apply _ _ _ r l).trans ?_
  rw [o1_apply]
  refine congrArg _ (Finset.sum_congr rfl fun i _ => ?_)
  rw [ldr_apply, ldw1_apply]

theorem qv_apply' (c : Dev nD) (q : Fin 4) (r : Fin 256) (l : Fin 2048) :
    qv m c q (ix2 r l) = ldo m c q (ix2 r l) + ∑ k : Fin 1024, ldq m c q (ix3 0 r k) * ldw2 m c (ix2 k l) := by
  match q with
  | 0 => exact pay23_apply _ _ _ r l
  | 1 => exact pay27_apply _ _ _ r l
  | 2 => exact pay29_apply _ _ _ r l
  | 3 => exact pay31_apply _ _ _ r l

theorem qv_apply (c : Dev nD) (q : Fin 4) (r : Fin 256) (l : Fin 2048) (h : 256 * q.val + r.val < 1024) :
    qv m c q (ix2 r l)
      = part m c c 0 ⟨256 * q.val + r.val, h⟩ l + part m c (src 0 c) 3 ⟨256 * q.val + r.val, h⟩ l
          + part m c (src 1 c) 1 ⟨256 * q.val + r.val, h⟩ l + part m c (src 2 c) 2 ⟨256 * q.val + r.val, h⟩ l := by
  rw [qv_apply', ldo_apply, o2_apply]
  refine congrArg _ (Finset.sum_congr rfl fun i _ => ?_)
  rw [ldq_apply, ldw2_apply]

/-- An element of the output block: its four products. -/
theorem o3_apply (c : Dev nD) (r : Fin 1024) (l : Fin 2048) :
    o3 m c (ix2 r l)
      = part m c c 0 r l + part m c (src 0 c) 3 r l + part m c (src 1 c) 1 r l + part m c (src 2 c) 2 r l := by
  have h : 256 * (r.val / 256) + r.val % 256 = r.val := Nat.div_add_mod _ _
  have e : (⟨256 * (r.val / 256) + r.val % 256, by omega⟩ : Fin 1024) = r := Fin.ext h
  refine (qv_apply m c ⟨r.val / 256, by omega⟩ ⟨r.val % 256, by omega⟩ l (by show _ < 1024; omega)).trans ?_
  show part m c c 0 ⟨256 * (r.val / 256) + r.val % 256, _⟩ l + _ + _ + _ = _
  simp only [e]

/-- A quarter's element is the block's. -/
theorem qv_eq (c : Dev nD) (q : Fin 4) (r : Fin 256) (l : Fin 2048) :
    qv m c q (ix2 r l) = o3 m c (ix2 ⟨256 * q.val + r.val, by omega⟩ l) := by
  rw [o3_apply, qv_apply]

/-! ## The sum over all columns -/

/-- A sum over 4096 is one over four runs of 1024. -/
theorem sum_runs (f : Fin 4096 → EReal) :
    ∑ k, f k = ∑ d : Fin 4, ∑ i : Fin 1024, f ⟨1024 * d.val + i.val, by omega⟩ := by
  rw [← Finset.sum_product', ← (finProdFinEquiv (m := 4) (n := 1024)).sum_comp f]
  refine Finset.sum_congr rfl fun p _ => congrArg f (Fin.ext ?_)
  show p.2.val + 1024 * p.1.val = 1024 * p.1.val + p.2.val
  omega

variable (X : FVec Ideal (⟨2, ![4096, 4096]⟩ : Shape) .f32) (W : FVec Ideal (⟨2, ![4096, 2048]⟩ : Shape) .f32)

/-- One run of the product's sum. -/
def run (d : Fin 4) (r : Fin 4096) (l : Fin 2048) : EReal :=
  ∑ i : Fin 1024, X (ix2 r ⟨1024 * d.val + i.val, by omega⟩) * W (ix2 ⟨1024 * d.val + i.val, by omega⟩ l)

/-- The product of the whole factors. -/
def prod (r : Fin 4096) (l : Fin 2048) : EReal := ∑ k : Fin 4096, X (ix2 r k) * W (ix2 k l)

theorem prod_eq (r : Fin 4096) (l : Fin 2048) :
    prod X W r l = run X W 0 r l + run X W 1 r l + run X W 2 r l + run X W 3 r l := by
  rw [← Fin.sum_univ_four (fun d => run X W d r l)]
  exact sum_runs _

/-- The arguments are the blocks of the whole factors. -/
def Agrees : Prop :=
  (∀ c : Dev nD, ∀ r k, aF m c (ix2 r k) = X (ix2 r ⟨1024 * c.val + k.val, by have : c.val < 4 := c.isLt; have := k.isLt; omega⟩))
    ∧ ∀ c : Dev nD, ∀ r k, bF m c (ix2 r k) = W (ix2 r k)

variable {m X W}

theorem part_eq (h : Agrees m X W) (c d : Dev nD) (k : ℕ) (hd : (c.val + k) % 4 = d.val) (r : Fin 1024) (l : Fin 2048) :
    part m c d k r l = run X W d ⟨row c 0 + r.val, row_lt c 0 r⟩ l := by
  unfold part run
  refine Finset.sum_congr rfl fun i _ => ?_
  rw [h.1, h.2]
  have e : (⟨row c k + i.val, row_lt c k i⟩ : Fin 4096) = ⟨1024 * d.val + i.val, by have : d.val < 4 := d.isLt; have := i.isLt; omega⟩ :=
    Fin.ext (by show 1024 * ((c.val + k) % 4) + i.val = _; rw [hd])
  rw [e]

/-- A device's output block is its rows of the whole product. -/
theorem o3_eq (h : Agrees m X W) (c : Dev nD) (r : Fin 1024) (l : Fin 2048) :
    o3 m c (ix2 r l) = prod X W ⟨row c 0 + r.val, row_lt c 0 r⟩ l := by
  rw [o3_apply, prod_eq, part_eq h c c 0 (by have : c.val < 4 := c.isLt; omega), part_eq h c (src 0 c) 3 rfl, part_eq h c (src 1 c) 1 rfl,
    part_eq h c (src 2 c) 2 rfl]
  generalize (⟨row c 0 + r.val, row_lt c 0 r⟩ : Fin 4096) = t
  fin_cases c
  · show run X W 0 t l + run X W 3 t l + run X W 1 t l + run X W 2 t l = _; ac_rfl
  · show run X W 1 t l + run X W 0 t l + run X W 2 t l + run X W 3 t l = _; ac_rfl
  · show run X W 2 t l + run X W 1 t l + run X W 3 t l + run X W 0 t l = _; ac_rfl
  · show run X W 3 t l + run X W 2 t l + run X W 0 t l + run X W 1 t l = _; ac_rfl

end Cert.KernelIdeal.Mesh

end
-- ==== Proof.Equation.Result.lean ====
/-
The largest magnitude, and a device's result at an element.
-/
module

public import proofs.«01_k».proof.Proof.Equation.Product
public import Idealize.ShloMosaic.Lib.Pointwise

@[expose] public section

noncomputable section

namespace Cert.KernelIdeal.Mesh

open Cert.KernelIdeal Cert.KernelIdeal.Gen
open Idealize.ShloMosaic Idealize.ShloMosaic.TcCoe

variable (m : (ℓ : Loc nD τ sig) → Buf (Elt Ideal) ℓ)

/-! ## The largest magnitude -/

/-- What a maximum starts from. -/
abbrev low : EReal := Ideal.ofBits .f32 0xFF800000#32

/-- A magnitude. -/
abbrev mag (x : EReal) : EReal := (FloatOps.absf (F := Ideal) (φ := .f32) x : EReal)

/-- The largest magnitude in a quarter. -/
def quarter (v : Vec Ideal S256x2048 .f32) : EReal :=
  Finset.univ.fold max low fun x : Fin 256 × Fin 2048 => mag (v (ix2 x.1 x.2))

theorem pay24_eq (v : Vec Ideal S256x2048 .f32) : k0_pay24 v = quarter v := by
  unfold quarter; pointwise [k0_pay24]
theorem pay28_eq (v : Vec Ideal S256x2048 .f32) : k0_pay28 v = quarter v := by
  unfold quarter; pointwise [k0_pay28]
theorem pay33_eq (v w : Vec Ideal S256x2048 .f32) : k0_pay33 (k0_pay30 v) w = max (quarter v) (quarter w) := by
  unfold quarter; pointwise [k0_pay33, k0_pay30]

theorem quarter_le (v : Vec Ideal S256x2048 .f32) (z : EReal) :
    quarter v ≤ z ↔ low ≤ z ∧ ∀ r l, mag (v (ix2 r l)) ≤ z := by
  unfold quarter
  rw [Finset.fold_max_le]
  exact and_congr_right fun _ => ⟨fun h r l => h (r, l) (Finset.mem_univ _), fun h x _ => h x.1 x.2⟩

theorem mx_eq (c : Dev nD) :
    mx m c = max (max (quarter (qv m c 0)) (quarter (qv m c 1))) (max (quarter (qv m c 2)) (quarter (qv m c 3))) := by
  unfold mx mxa mxb
  rw [pay24_eq, pay28_eq, pay33_eq]
  pointwise [k0_pay34, k0_pay32]

/-- The largest magnitude in a device's block. -/
theorem mx_le (c : Dev nD) (z : EReal) :
    mx m c ≤ z ↔ low ≤ z ∧ ∀ r l, mag (o3 m c (ix2 r l)) ≤ z := by
  have key : (∀ r l, mag (o3 m c (ix2 r l)) ≤ z) ↔ ∀ q : Fin 4, ∀ r l, mag (qv m c q (ix2 r l)) ≤ z := by
    constructor
    · intro h q r l; rw [qv_eq]; exact h _ l
    · intro h r l
      have := h ⟨r.val / 256, by omega⟩ ⟨r.val % 256, by omega⟩ l
      rw [qv_eq] at this
      have e : (⟨256 * (r.val / 256) + r.val % 256, by omega⟩ : Fin 1024) = r := Fin.ext (Nat.div_add_mod _ _)
      exact e ▸ this
  rw [mx_eq, max_le_iff, max_le_iff, max_le_iff, quarter_le, quarter_le, quarter_le, quarter_le, key]
  constructor
  · rintro ⟨⟨⟨h, h0⟩, -, h1⟩, ⟨-, h2⟩, -, h3⟩; refine ⟨h, fun q => ?_⟩
    match q with
    | 0 => exact h0
    | 1 => exact h1
    | 2 => exact h2
    | 3 => exact h3
  · rintro ⟨h, hq⟩; exact ⟨⟨⟨h, hq 0⟩, h, hq 1⟩, ⟨h, hq 2⟩, h, hq 3⟩

/-- The largest magnitude of all, as device `c` finds it. -/
def gmx (c : Dev nD) : EReal := max (max (max (mx m c) (mx m (src 0 c))) (mx m (src 1 c))) (mx m (src 2 c))

/-- What an element becomes, given the largest magnitude. -/
def quant (g y : EReal) : EReal :=
  (min (Ideal.ofBits .f32 0x42FE0000#32) (max (Ideal.ofBits .f32 0xC2FE0000#32)
    (FloatOps.roundeven (F := Ideal) (φ := .f32) (Ideal.div y (Ideal.div g (Ideal.ofBits .f32 0x42FE0000#32))))))
    * Ideal.div g (Ideal.ofBits .f32 0x42FE0000#32)

theorem pay_out_apply (g : Ideal .f32) (a b d : Vec Ideal S1x1x1 .f32) (o : Vec Ideal S1024x2048 .f32) (r : Fin 1024) (l : Fin 2048) :
    k0_pay1 (k0_pay37 (k0_pay36 g a b) d) (k0_pay38 o) (k0_pay39 (k0_pay36 g a b) d) (ix2 r l)
      = quant (max (max (max g (a (ix3 0 0 0))) (b (ix3 0 0 0))) (d (ix3 0 0 0))) (o (ix2 r l)) := by
  unfold quant
  pointwise [k0_pay1, k0_pay37, k0_pay38, k0_pay39, k0_pay36]

theorem outF_apply (c : Dev nD) (r : Fin 1024) (l : Fin 2048) :
    outF m c (ix2 r l) = quant (gmx m c) (o3 m c (ix2 r l)) := by
  unfold outF mx2 gmx
  rw [pay_out_apply, lda_apply, lda_apply, lda_apply]

/-- Over the devices: the largest magnitude of all of the whole product. -/
theorem gmx_le {X : FVec Ideal (⟨2, ![4096, 4096]⟩ : Shape) .f32} {W : FVec Ideal (⟨2, ![4096, 2048]⟩ : Shape) .f32}
    (h : Agrees m X W) (c : Dev nD) (z : EReal) :
    gmx m c ≤ z ↔ low ≤ z ∧ ∀ r l, mag (prod X W r l) ≤ z := by
  have one : ∀ d : Dev nD, mx m d ≤ z ↔ low ≤ z ∧ ∀ (r : Fin 1024) l, mag (prod X W ⟨row d 0 + r.val, row_lt d 0 r⟩ l) ≤ z := by
    intro d
    rw [mx_le]
    simp only [o3_eq h]
  have all : gmx m c ≤ z ↔ ∀ d : Dev nD, mx m d ≤ z := by
    unfold gmx
    rw [max_le_iff, max_le_iff, max_le_iff]
    constructor
    · rintro ⟨⟨⟨h0, h3⟩, h1⟩, h2⟩ d
      have : d = c ∨ d = src 0 c ∨ d = src 1 c ∨ d = src 2 c := by clear h0 h1 h2 h3 one h; revert c d; decide
      rcases this with rfl | rfl | rfl | rfl
      exacts [h0, h3, h1, h2]
    · intro hd; exact ⟨⟨⟨hd _, hd _⟩, hd _⟩, hd _⟩
  rw [all]
  constructor
  · intro hd
    refine ⟨((one c).1 (hd c)).1, fun r l => ?_⟩
    have := ((one ⟨r.val / 1024, by show _ < 4; omega⟩).1 (hd _)).2 ⟨r.val % 1024, by omega⟩ l
    have e : (⟨row ⟨r.val / 1024, by show _ < 4; omega⟩ 0 + r.val % 1024, row_lt _ 0 ⟨r.val % 1024, by omega⟩⟩ : Fin 4096) = r :=
      Fin.ext (by show 1024 * ((r.val / 1024 + 0) % 4) + r.val % 1024 = r.val; omega)
    exact e ▸ this
  · rintro ⟨hl, hr⟩ d
    exact (one d).2 ⟨hl, fun r l => hr _ l⟩

end Cert.KernelIdeal.Mesh

end
-- ==== Proof.Equation.Reference.lean ====
/-
The reference's result at an element, and a device's result as its rows of the reference's.
-/
module

public import proofs.«01_k».proof.Proof.Equation.Result
public import proofs.«01_k».proof.Proof.Gen.ReferenceIdeal.Run
public import Idealize.ShloMosaic.Lib.Pointwise

@[expose] public section

noncomputable section

namespace Cert.ReferenceIdeal.Mesh

open Cert.ReferenceIdeal Cert.ReferenceIdeal.Gen
open Idealize.ShloMosaic Idealize.ShloMosaic.TcCoe
open Cert.KernelIdeal.Mesh (low mag quant prod)

variable (X : FVec Ideal S4096x4096 .f32) (W : FVec Ideal S4096x2048 .f32)

/-- The product as the reference writes it. -/
def dotv : FVec Ideal S4096x2048 .f32 := Host.dotGeneral dot_S4096x4096_S4096x2048_S4096x2048_1_0_0_1_n_n none X W

/-- The reference's result, of its product. -/
def refv (Y : FVec Ideal S4096x2048 .f32) : FVec Ideal S4096x2048 .f32 :=
  mulf (minimumf (broadcastInDim S4096x2048 ![] bcast_S_S4096x2048 (id (constant S_ .f32 0x42FE0000#32))) (maximumf (broadcastInDim S4096x2048 ![] bcast_S_S4096x2048 (id (constant S_ .f32 0xC2FE0000#32))) (Host.roundeven (Host.divf Y (broadcastInDim S4096x2048 ![] bcast_S_S4096x2048 (Host.divf (Host.reduce FloatOps.maximumf (Host.absf Y) (constant S_ .f32 0xFF800000#32) reducesTo_S4096x2048_S_d0_1 h_S_) (constant S_ .f32 0x42FE0000#32))))))) (broadcastInDim S4096x2048 ![] bcast_S_S4096x2048 (Host.divf (Host.reduce FloatOps.maximumf (Host.absf Y) (constant S_ .f32 0xFF800000#32) reducesTo_S4096x2048_S_d0_1 h_S_) (constant S_ .f32 0x42FE0000#32)))

/-- The largest magnitude. -/
def top (Y : FVec Ideal S4096x2048 .f32) : EReal :=
  Finset.univ.fold max low fun x : Fin 4096 × Fin 2048 => mag (Y (ix2 x.1 x.2))

theorem top_le (Y : FVec Ideal S4096x2048 .f32) (z : EReal) : top Y ≤ z ↔ low ≤ z ∧ ∀ r l, mag (Y (ix2 r l)) ≤ z := by
  unfold top
  rw [Finset.fold_max_le]
  simp only [Finset.mem_univ, true_implies, Prod.forall]

theorem dotv_apply (r : Fin 4096) (l : Fin 2048) : dotv X W (ix2 r l) = prod X W r l := by
  unfold prod; pointwise [dotv]

theorem refv_apply (Y : FVec Ideal S4096x2048 .f32) (r : Fin 4096) (l : Fin 2048) :
    refv Y (ix2 r l) = quant (top Y) (Y (ix2 r l)) := by
  unfold top quant
  pointwise [refv]
  rfl

open Cert.KernelIdeal.Mesh in
/-- A device's result is its rows of the reference's. -/
theorem outF_eq {m : (ℓ : Loc Cert.KernelIdeal.nD Cert.KernelIdeal.τ Cert.KernelIdeal.sig) → Buf (Elt Ideal) ℓ}
    {X : FVec Ideal S4096x4096 .f32} {W : FVec Ideal S4096x2048 .f32} (h : Agrees m X W) (c : Dev Cert.KernelIdeal.nD)
    (r : Fin 1024) (l : Fin 2048) :
    outF m c (ix2 r l) = refv (dotv X W) (ix2 ⟨row c 0 + r.val, row_lt c 0 r⟩ l) := by
  have g : gmx m c = top (dotv X W) := eq_of_forall_ge_iff fun z => by
    rw [gmx_le m h, top_le]
    simp only [dotv_apply]
  rw [outF_apply, o3_eq h, refv_apply, dotv_apply, g]

end Cert.ReferenceIdeal.Mesh

end
-- ==== Proof.lean ====
/- The claims, assembled. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Equation.Reference
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

theorem frame_k : Cert.quiescent_Kernel := fun m ρ _ =>
  (θ_run Cert.Kernel.defs _ _).mono (fun _ h => ⟨fun c => (h.1 c).2, h.2⟩) (Cert.Kernel.Mesh.run_main (F := Bits) m ρ)

theorem frame_ki : Cert.quiescent_KernelIdeal := fun m ρ _ =>
  (θ_run Cert.KernelIdeal.defs _ _).mono (fun _ h => ⟨fun c => (h.1 c).2, h.2⟩) (Cert.KernelIdeal.Mesh.run_main (F := Ideal) m ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m g m' g' _ hagree
  have ag : Cert.KernelIdeal.Mesh.Agrees m (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) := by
    refine ⟨fun c r k => (congrFun (hagree c).1 (ix2 r k)).trans ?_, fun c r k => congrFun (hagree c).2 (ix2 r k)⟩
    rw [Layout.block_apply]
    refine congrArg _ (funext fun a => Fin.ext ?_)
    fin_cases a
    · rfl
    · show c.val * 1024 + k.val = 1024 * c.val + k.val; omega
  refine ⟨Cert.ReferenceIdeal.Mesh.refv (Cert.ReferenceIdeal.Mesh.dotv (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))), ?_, ?_⟩
  · refine (θ_run Cert.KernelIdeal.defs _ _).mono (fun r h c => ⟨(h.1 c).1.trans (funext fun i => ?_), (h.1 c).2⟩)
      (Cert.KernelIdeal.Mesh.run_main (F := Ideal) m g)
    obtain ⟨a, b, rfl⟩ : ∃ (a : Fin 1024) (b : Fin 2048), i = ix2 a b := ⟨i 0, i 1, eq_ix2 i⟩
    rw [Cert.ReferenceIdeal.Mesh.outF_eq ag, Layout.block_apply]
    refine congrArg _ (funext fun x => Fin.ext ?_)
    have hc : c.val < 4 := c.isLt
    fin_cases x
    · show 1024 * ((c.val + 0) % 4) + a.val = c.val * 1024 + a.val; omega
    · rfl
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_k, frame_ki, frame_ri, trivial, algebraic⟩

end Cert.Proof

end
